-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x192x56x56 : Shape := ⟨4, ![32, 192, 56, 56]⟩
abbrev S_ : Shape := ⟨0, ![]⟩
abbrev S1x1 : Shape := ⟨2, ![1, 1]⟩
abbrev S56x56 : Shape := ⟨2, ![56, 56]⟩
abbrev S1x1x56x56 : Shape := ⟨4, ![1, 1, 56, 56]⟩
abbrev S1x192x56x56 : Shape := ⟨4, ![1, 192, 56, 56]⟩
abbrev S192x56x56 : Shape := ⟨3, ![192, 56, 56]⟩
abbrev S1x56x56 : Shape := ⟨3, ![1, 56, 56]⟩
abbrev S192x1x56 : Shape := ⟨3, ![192, 1, 56]⟩
abbrev S192x55x56 : Shape := ⟨3, ![192, 55, 56]⟩
abbrev S192x2x56 : Shape := ⟨3, ![192, 2, 56]⟩
abbrev S192x54x56 : Shape := ⟨3, ![192, 54, 56]⟩
abbrev S192x4x56 : Shape := ⟨3, ![192, 4, 56]⟩
abbrev S192x52x56 : Shape := ⟨3, ![192, 52, 56]⟩
abbrev S192x56x1 : Shape := ⟨3, ![192, 56, 1]⟩
abbrev S192x56x55 : Shape := ⟨3, ![192, 56, 55]⟩
abbrev S192x56x2 : Shape := ⟨3, ![192, 56, 2]⟩
abbrev S192x56x54 : Shape := ⟨3, ![192, 56, 54]⟩
abbrev S192x56x4 : Shape := ⟨3, ![192, 56, 4]⟩
abbrev S192x56x52 : Shape := ⟨3, ![192, 56, 52]⟩
abbrev S1 : Shape := ⟨1, ![1]⟩
abbrev S1x1x1x1 : Shape := ⟨4, ![1, 1, 1, 1]⟩

abbrev nBuf : Space → Nat
  | .hbm => 25
  | .vmem => 9
  | .smem => 3
  | _ => 0

abbrev bufTy : (tb : Table) → Fin (tcTables nBuf tb) → BufTy
  | .hbm, ⟨0, _⟩ => ⟨S32x192x56x56, .f32⟩
  | .hbm, ⟨1, _⟩ => ⟨S_, .f32⟩
  | .hbm, ⟨2, _⟩ => ⟨S1x1, .f32⟩
  | .hbm, ⟨3, _⟩ => ⟨S56x56, .i32⟩
  | .hbm, ⟨4, _⟩ => ⟨S56x56, .i32⟩
  | .hbm, ⟨5, _⟩ => ⟨S_, .i32⟩
  | .hbm, ⟨6, _⟩ => ⟨S56x56, .i32⟩
  | .hbm, ⟨7, _⟩ => ⟨S56x56, .i1⟩
  | .hbm, ⟨8, _⟩ => ⟨S_, .i32⟩
  | .hbm, ⟨9, _⟩ => ⟨S56x56, .i32⟩
  | .hbm, ⟨10, _⟩ => ⟨S56x56, .i1⟩
  | .hbm, ⟨11, _⟩ => ⟨S56x56, .i1⟩
  | .hbm, ⟨12, _⟩ => ⟨S56x56, .f32⟩
  | .hbm, ⟨13, _⟩ => ⟨S1x1x56x56, .f32⟩
  | .hbm, ⟨14, _⟩ => ⟨S32x192x56x56, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .i32⟩
  | .hbm, ⟨20, _⟩ => ⟨S32x192x56x56, .f32⟩
  | .hbm, ⟨21, _⟩ => ⟨S_, .f32⟩
  | .hbm, ⟨22, _⟩ => ⟨S1x1, .f32⟩
  | .hbm, ⟨23, _⟩ => ⟨S1x1, .f32⟩
  | .hbm, ⟨24, _⟩ => ⟨S32x192x56x56, .f32⟩
  | .local _ .vmem, ⟨0, _⟩ => ⟨S1x1x56x56, .f32⟩
  | .local _ .vmem, ⟨1, _⟩ => ⟨S1x192x56x56, .f32⟩
  | .local _ .vmem, ⟨2, _⟩ => ⟨S1x192x56x56, .f32⟩
  | .local _ .vmem, ⟨3, _⟩ => ⟨S1x192x56x56, .f32⟩
  | .local _ .vmem, ⟨4, _⟩ => ⟨S1x192x56x56, .f32⟩
  | .local _ .vmem, ⟨5, _⟩ => ⟨S1x192x56x56, .f32⟩
  | .local _ .vmem, ⟨6, _⟩ => ⟨S1x192x56x56, .f32⟩
  | .local _ .vmem, ⟨7, _⟩ => ⟨S1x192x56x56, .f32⟩
  | .local _ .vmem, ⟨8, _⟩ => ⟨S1x192x56x56, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S32x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_case0b0_cst_1 : Ref sig .tc := ⟨.hbm, 21, rfl⟩
abbrev main_case0b0_v15 : Ref sig .tc := ⟨.hbm, 22, rfl⟩
abbrev main_case0b0_v16 : Ref sig .tc := ⟨.hbm, 23, rfl⟩
abbrev main_case0b0_v17 : Ref sig .tc := ⟨.hbm, 24, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_stg0_0 : Ref sig .tc := ⟨.smem, 0, rfl⟩
abbrev cc0_stg4_0 : Ref sig .tc := ⟨.smem, 1, rfl⟩
abbrev cc1_stg0_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x56x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x192x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x192x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x192x56x56 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x192x56x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S32x192x56x56 : Shape := ⟨4, ![32, 192, 56, 56]⟩
abbrev S_ : Shape := ⟨0, ![]⟩
abbrev S1x1 : Shape := ⟨2, ![1, 1]⟩
abbrev S192x56x56 : Shape := ⟨3, ![192, 56, 56]⟩
abbrev S1x192x56x56 : Shape := ⟨4, ![1, 192, 56, 56]⟩
abbrev S32x192x52x52 : Shape := ⟨4, ![32, 192, 52, 52]⟩

abbrev nBuf : Space → Nat
  | .hbm => 121
  | .vmem => 1
  | .smem => 1
  | _ => 0

abbrev bufTy : (tb : Table) → Fin (tcTables nBuf tb) → BufTy
  | .hbm, ⟨0, _⟩ => ⟨S32x192x56x56, .f32⟩
  | .hbm, ⟨1, _⟩ => ⟨S_, .f32⟩
  | .hbm, ⟨2, _⟩ => ⟨S1x1, .f32⟩
  | .hbm, ⟨3, _⟩ => ⟨S32x192x56x56, .f32⟩
  | .hbm, ⟨4, _⟩ => ⟨S32x192x52x52, .f32⟩
  | .hbm, ⟨5, _⟩ => ⟨S_, .f32⟩
  | .hbm, ⟨6, _⟩ => ⟨S32x192x56x56, .f32⟩
  | .hbm, ⟨7, _⟩ => ⟨S_, .i32⟩
  | .hbm, ⟨8, _⟩ => ⟨S_, .f32⟩
  | .hbm, ⟨9, _⟩ => ⟨S32x192x56x56, .f32⟩
  | .hbm, ⟨10, _⟩ => ⟨S32x192x56x56, .f32⟩
  | .hbm, ⟨11, _⟩ => ⟨S_, .i32⟩
  | .hbm, ⟨12, _⟩ => ⟨S_, .f32⟩
  | .hbm, ⟨13, _⟩ => ⟨S32x192x56x56, .f32⟩
  | .hbm, ⟨14, _⟩ => ⟨S32x192x56x56, .f32⟩
  | .hbm, ⟨15, _⟩ => ⟨S_, .i32⟩
  | .hbm, ⟨16, _⟩ => ⟨S_, .f32⟩
  | .hbm, ⟨17, _⟩ => ⟨S32x192x56x56, .f32⟩
  | .hbm, ⟨18, _⟩ => ⟨S32x192x56x56, .f32⟩
  | .hbm, ⟨19, _⟩ => ⟨S_, .i32⟩
  | .hbm, ⟨20, _⟩ => ⟨S_, .f32⟩
  | .hbm, ⟨21, _⟩ => ⟨S32x192x56x56, .f32⟩
  | .hbm, ⟨22, _⟩ => ⟨S32x192x56x56, .f32⟩
  | .hbm, ⟨23, _⟩ => ⟨S_, .i32⟩
  | .hbm, ⟨24, _⟩ => ⟨S_, .f32⟩
  | .hbm, ⟨25, _⟩ => ⟨S32x192x56x56, .f32⟩
  | .hbm, ⟨26, _⟩ => ⟨S32x192x56x56, .f32⟩
  | .hbm, ⟨27, _⟩ => ⟨S_, .i32⟩
  | .hbm, ⟨28, _⟩ => ⟨S_, .f32⟩
  | .hbm, ⟨29, _⟩ => ⟨S32x192x56x56, .f32⟩
  | .hbm, ⟨30, _⟩ => ⟨S32x192x56x56, .f32⟩
  | .hbm, ⟨31, _⟩ => ⟨S_, .i32⟩
  | .hbm, ⟨32, _⟩ => ⟨S_, .f32⟩
  | .hbm, ⟨33, _⟩ => ⟨S32x192x56x56, .f32⟩
  | .hbm, ⟨34, _⟩ => ⟨S32x192x56x56, .f32⟩
  | .hbm, ⟨35, _⟩ => ⟨S_, .i32⟩
  | .hbm, ⟨36, _⟩ => ⟨S_, .f32⟩
  | .hbm, ⟨37, _⟩ => ⟨S32x192x56x56, .f32⟩
  | .hbm, ⟨38, _⟩ => ⟨S32x192x56x56, .f32⟩
  | .hbm, ⟨39, _⟩ => ⟨S_, .i32⟩
  | .hbm, ⟨40, _⟩ => ⟨S_, .f32⟩
  | .hbm, ⟨41, _⟩ => ⟨S32x192x56x56, .f32⟩
  | .hbm, ⟨42, _⟩ => ⟨S32x192x56x56, .f32⟩
  | .hbm, ⟨43, _⟩ => ⟨S_, .i32⟩
  | .hbm, ⟨44, _⟩ => ⟨S_, .f32⟩
  | .hbm, ⟨45, _⟩ => ⟨S32x192x56x56, .f32⟩
  | .hbm, ⟨46, _⟩ => ⟨S32x192x56x56, .f32⟩
  | .hbm, ⟨47, _⟩ => ⟨S_, .i32⟩
  | .hbm, ⟨48, _⟩ => ⟨S_, .f32⟩
  | .hbm, ⟨49, _⟩ => ⟨S32x192x56x56, .f32⟩
  | .hbm, ⟨50, _⟩ => ⟨S32x192x56x56, .f32⟩
  | .hbm, ⟨51, _⟩ => ⟨S_, .i32⟩
  | .hbm, ⟨52, _⟩ => ⟨S_, .f32⟩
  | .hbm, ⟨53, _⟩ => ⟨S32x192x56x56, .f32⟩
  | .hbm, ⟨54, _⟩ => ⟨S32x192x56x56, .f32⟩
  | .hbm, ⟨55, _⟩ => ⟨S_, .i32⟩
  | .hbm, ⟨56, _⟩ => ⟨S_, .f32⟩
  | .hbm, ⟨57, _⟩ => ⟨S32x192x56x56, .f32⟩
  | .hbm, ⟨58, _⟩ => ⟨S32x192x56x56, .f32⟩
  | .hbm, ⟨59, _⟩ => ⟨S_, .i32⟩
  | .hbm, ⟨60, _⟩ => ⟨S_, .f32⟩
  | .hbm, ⟨61, _⟩ => ⟨S32x192x56x56, .f32⟩
  | .hbm, ⟨62, _⟩ => ⟨S32x192x56x56, .f32⟩
  | .hbm, ⟨63, _⟩ => ⟨S_, .i32⟩
  | .hbm, ⟨64, _⟩ => ⟨S_, .f32⟩
  | .hbm, ⟨65, _⟩ => ⟨S32x192x56x56, .f32⟩
  | .hbm, ⟨66, _⟩ => ⟨S32x192x56x56, .f32⟩
  | .hbm, ⟨67, _⟩ => ⟨S_, .i32⟩
  | .hbm, ⟨68, _⟩ => ⟨S_, .f32⟩
  | .hbm, ⟨69, _⟩ => ⟨S32x192x56x56, .f32⟩
  | .hbm, ⟨70, _⟩ => ⟨S32x192x56x56, .f32⟩
  | .hbm, ⟨71, _⟩ => ⟨S_, .i32⟩
  | .hbm, ⟨72, _⟩ => ⟨S_, .f32⟩
  | .hbm, ⟨73, _⟩ => ⟨S32x192x56x56, .f32⟩
  | .hbm, ⟨74, _⟩ => ⟨S32x192x56x56, .f32⟩
  | .hbm, ⟨75, _⟩ => ⟨S_, .i32⟩
  | .hbm, ⟨76, _⟩ => ⟨S_, .f32⟩
  | .hbm, ⟨77, _⟩ => ⟨S32x192x56x56, .f32⟩
  | .hbm, ⟨78, _⟩ => ⟨S32x192x56x56, .f32⟩
  | .hbm, ⟨79, _⟩ => ⟨S_, .i32⟩
  | .hbm, ⟨80, _⟩ => ⟨S_, .f32⟩
  | .hbm, ⟨81, _⟩ => ⟨S32x192x56x56, .f32⟩
  | .hbm, ⟨82, _⟩ => ⟨S32x192x56x56, .f32⟩
  | .hbm, ⟨83, _⟩ => ⟨S_, .i32⟩
  | .hbm, ⟨84, _⟩ => ⟨S_, .f32⟩
  | .hbm, ⟨85, _⟩ => ⟨S32x192x56x56, .f32⟩
  | .hbm, ⟨86, _⟩ => ⟨S32x192x56x56, .f32⟩
  | .hbm, ⟨87, _⟩ => ⟨S_, .i32⟩
  | .hbm, ⟨88, _⟩ => ⟨S_, .f32⟩
  | .hbm, ⟨89, _⟩ => ⟨S32x192x56x56, .f32⟩
  | .hbm, ⟨90, _⟩ => ⟨S32x192x56x56, .f32⟩
  | .hbm, ⟨91, _⟩ => ⟨S_, .i32⟩
  | .hbm, ⟨92, _⟩ => ⟨S_, .f32⟩
  | .hbm, ⟨93, _⟩ => ⟨S32x192x56x56, .f32⟩
  | .hbm, ⟨94, _⟩ => ⟨S32x192x56x56, .f32⟩
  | .hbm, ⟨95, _⟩ => ⟨S_, .i32⟩
  | .hbm, ⟨96, _⟩ => ⟨S_, .f32⟩
  | .hbm, ⟨97, _⟩ => ⟨S32x192x56x56, .f32⟩
  | .hbm, ⟨98, _⟩ => ⟨S32x192x56x56, .f32⟩
  | .hbm, ⟨99, _⟩ => ⟨S_, .i32⟩
  | .hbm, ⟨100, _⟩ => ⟨S_, .f32⟩
  | .hbm, ⟨101, _⟩ => ⟨S32x192x56x56, .f32⟩
  | .hbm, ⟨102, _⟩ => ⟨S32x192x56x56, .f32⟩
  | .hbm, ⟨103, _⟩ => ⟨S_, .i32⟩
  | .hbm, ⟨104, _⟩ => ⟨S_, .f32⟩
  | .hbm, ⟨105, _⟩ => ⟨S32x192x56x56, .f32⟩
  | .hbm, ⟨106, _⟩ => ⟨S32x192x56x56, .f32⟩
  | .hbm, ⟨107, _⟩ => ⟨S_, .i32⟩
  | .hbm, ⟨108, _⟩ => ⟨S_, .f32⟩
  | .hbm, ⟨109, _⟩ => ⟨S32x192x56x56, .f32⟩
  | .hbm, ⟨110, _⟩ => ⟨S32x192x56x56, .f32⟩
  | .hbm, ⟨111, _⟩ => ⟨S_, .f32⟩
  | .hbm, ⟨112, _⟩ => ⟨S32x192x56x56, .f32⟩
  | .hbm, ⟨113, _⟩ => ⟨S32x192x56x56, .f32⟩
  | .hbm, ⟨114, _⟩ => ⟨S_, .f32⟩
  | .hbm, ⟨115, _⟩ => ⟨S_, .f32⟩
  | .hbm, ⟨116, _⟩ => ⟨S32x192x56x56, .f32⟩
  | .hbm, ⟨117, _⟩ => ⟨S_, .f32⟩
  | .hbm, ⟨118, _⟩ => ⟨S_, .f32⟩
  | .hbm, ⟨119, _⟩ => ⟨S32x192x56x56, .f32⟩
  | .hbm, ⟨120, _⟩ => ⟨S32x192x56x56, .f32⟩
  | .local _ .vmem, ⟨0, _⟩ => ⟨S32x192x56x56, .f32⟩
  | .local _ .smem, ⟨0, _⟩ => ⟨S1x1, .f32⟩
  | _, _ => ⟨S32x192x56x56, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call3_v0 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call4_v0 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_call5_v0 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_call6_v0 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_call7_v0 : Ref sig .tc := ⟨.hbm, 36, rfl⟩
abbrev main_v18 : Ref sig .tc := ⟨.hbm, 37, rfl⟩
abbrev main_v19 : Ref sig .tc := ⟨.hbm, 38, rfl⟩
abbrev main_c_7 : Ref sig .tc := ⟨.hbm, 39, rfl⟩
abbrev main_call8_v0 : Ref sig .tc := ⟨.hbm, 40, rfl⟩
abbrev main_v20 : Ref sig .tc := ⟨.hbm, 41, rfl⟩
abbrev main_v21 : Ref sig .tc := ⟨.hbm, 42, rfl⟩
abbrev main_c_8 : Ref sig .tc := ⟨.hbm, 43, rfl⟩
abbrev main_call9_v0 : Ref sig .tc := ⟨.hbm, 44, rfl⟩
abbrev main_v22 : Ref sig .tc := ⟨.hbm, 45, rfl⟩
abbrev main_v23 : Ref sig .tc := ⟨.hbm, 46, rfl⟩
abbrev main_c_9 : Ref sig .tc := ⟨.hbm, 47, rfl⟩
abbrev main_call10_v0 : Ref sig .tc := ⟨.hbm, 48, rfl⟩
abbrev main_v24 : Ref sig .tc := ⟨.hbm, 49, rfl⟩
abbrev main_v25 : Ref sig .tc := ⟨.hbm, 50, rfl⟩
abbrev main_c_10 : Ref sig .tc := ⟨.hbm, 51, rfl⟩
abbrev main_call11_v0 : Ref sig .tc := ⟨.hbm, 52, rfl⟩
abbrev main_v26 : Ref sig .tc := ⟨.hbm, 53, rfl⟩
abbrev main_v27 : Ref sig .tc := ⟨.hbm, 54, rfl⟩
abbrev main_c_11 : Ref sig .tc := ⟨.hbm, 55, rfl⟩
abbrev main_call12_v0 : Ref sig .tc := ⟨.hbm, 56, rfl⟩
abbrev main_v28 : Ref sig .tc := ⟨.hbm, 57, rfl⟩
abbrev main_v29 : Ref sig .tc := ⟨.hbm, 58, rfl⟩
abbrev main_c_12 : Ref sig .tc := ⟨.hbm, 59, rfl⟩
abbrev main_call13_v0 : Ref sig .tc := ⟨.hbm, 60, rfl⟩
abbrev main_v30 : Ref sig .tc := ⟨.hbm, 61, rfl⟩
abbrev main_v31 : Ref sig .tc := ⟨.hbm, 62, rfl⟩
abbrev main_c_13 : Ref sig .tc := ⟨.hbm, 63, rfl⟩
abbrev main_call14_v0 : Ref sig .tc := ⟨.hbm, 64, rfl⟩
abbrev main_v32 : Ref sig .tc := ⟨.hbm, 65, rfl⟩
abbrev main_v33 : Ref sig .tc := ⟨.hbm, 66, rfl⟩
abbrev main_c_14 : Ref sig .tc := ⟨.hbm, 67, rfl⟩
abbrev main_call15_v0 : Ref sig .tc := ⟨.hbm, 68, rfl⟩
abbrev main_v34 : Ref sig .tc := ⟨.hbm, 69, rfl⟩
abbrev main_v35 : Ref sig .tc := ⟨.hbm, 70, rfl⟩
abbrev main_c_15 : Ref sig .tc := ⟨.hbm, 71, rfl⟩
abbrev main_call16_v0 : Ref sig .tc := ⟨.hbm, 72, rfl⟩
abbrev main_v36 : Ref sig .tc := ⟨.hbm, 73, rfl⟩
abbrev main_v37 : Ref sig .tc := ⟨.hbm, 74, rfl⟩
abbrev main_c_16 : Ref sig .tc := ⟨.hbm, 75, rfl⟩
abbrev main_call17_v0 : Ref sig .tc := ⟨.hbm, 76, rfl⟩
abbrev main_v38 : Ref sig .tc := ⟨.hbm, 77, rfl⟩
abbrev main_v39 : Ref sig .tc := ⟨.hbm, 78, rfl⟩
abbrev main_c_17 : Ref sig .tc := ⟨.hbm, 79, rfl⟩
abbrev main_call18_v0 : Ref sig .tc := ⟨.hbm, 80, rfl⟩
abbrev main_v40 : Ref sig .tc := ⟨.hbm, 81, rfl⟩
abbrev main_v41 : Ref sig .tc := ⟨.hbm, 82, rfl⟩
abbrev main_c_18 : Ref sig .tc := ⟨.hbm, 83, rfl⟩
abbrev main_call19_v0 : Ref sig .tc := ⟨.hbm, 84, rfl⟩
abbrev main_v42 : Ref sig .tc := ⟨.hbm, 85, rfl⟩
abbrev main_v43 : Ref sig .tc := ⟨.hbm, 86, rfl⟩
abbrev main_c_19 : Ref sig .tc := ⟨.hbm, 87, rfl⟩
abbrev main_call20_v0 : Ref sig .tc := ⟨.hbm, 88, rfl⟩
abbrev main_v44 : Ref sig .tc := ⟨.hbm, 89, rfl⟩
abbrev main_v45 : Ref sig .tc := ⟨.hbm, 90, rfl⟩
abbrev main_c_20 : Ref sig .tc := ⟨.hbm, 91, rfl⟩
abbrev main_call21_v0 : Ref sig .tc := ⟨.hbm, 92, rfl⟩
abbrev main_v46 : Ref sig .tc := ⟨.hbm, 93, rfl⟩
abbrev main_v47 : Ref sig .tc := ⟨.hbm, 94, rfl⟩
abbrev main_c_21 : Ref sig .tc := ⟨.hbm, 95, rfl⟩
abbrev main_call22_v0 : Ref sig .tc := ⟨.hbm, 96, rfl⟩
abbrev main_v48 : Ref sig .tc := ⟨.hbm, 97, rfl⟩
abbrev main_v49 : Ref sig .tc := ⟨.hbm, 98, rfl⟩
abbrev main_c_22 : Ref sig .tc := ⟨.hbm, 99, rfl⟩
abbrev main_call23_v0 : Ref sig .tc := ⟨.hbm, 100, rfl⟩
abbrev main_v50 : Ref sig .tc := ⟨.hbm, 101, rfl⟩
abbrev main_v51 : Ref sig .tc := ⟨.hbm, 102, rfl⟩
abbrev main_c_23 : Ref sig .tc := ⟨.hbm, 103, rfl⟩
abbrev main_call24_v0 : Ref sig .tc := ⟨.hbm, 104, rfl⟩
abbrev main_v52 : Ref sig .tc := ⟨.hbm, 105, rfl⟩
abbrev main_v53 : Ref sig .tc := ⟨.hbm, 106, rfl⟩
abbrev main_c_24 : Ref sig .tc := ⟨.hbm, 107, rfl⟩
abbrev main_call25_v0 : Ref sig .tc := ⟨.hbm, 108, rfl⟩
abbrev main_v54 : Ref sig .tc := ⟨.hbm, 109, rfl⟩
abbrev main_v55 : Ref sig .tc := ⟨.hbm, 110, rfl⟩
abbrev main_cst_25 : Ref sig .tc := ⟨.hbm, 111, rfl⟩
abbrev main_v56 : Ref sig .tc := ⟨.hbm, 112, rfl⟩
abbrev main_v57 : Ref sig .tc := ⟨.hbm, 113, rfl⟩
abbrev main_cst_26 : Ref sig .tc := ⟨.hbm, 114, rfl⟩
abbrev main_v58 : Ref sig .tc := ⟨.hbm, 115, rfl⟩
abbrev main_v59 : Ref sig .tc := ⟨.hbm, 116, rfl⟩
abbrev main_cst_27 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_off1 (k0_t1 : Fin k0_t1_loop.trips) : Fin 4 → Nat :=
  let c0_i32 : BitVec 32 := 0#32
  let c1_i32 : BitVec 32 := 1#32
  let arg2 : BitVec 32 := Scf.iv c0_i32 c1_i32 k0_t1
  let v11 : Index := Scalar.indexCast arg2
  let c0_5 : Index := 0#32
  let c0_6 : Index := 0#32
  let c0_7 : Index := 0#32
  ![v11.toNat, 0, 0, 0]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x192x56x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Transfer.lean ====
/-
  The kernel as printed and the kernel that the value claim reads are the same text, printed twice. So the frame of the first is
  the frame of the second, at machine floats.
-/
module

public import proofs.«01_k».proof.Defs
public import Idealize.ShloMosaic.Lib.Tactic

@[expose] public section

noncomputable section

namespace Cert.DropBlock

open Idealize.ShloMosaic Idealize.SL.Sem

variable [hK : Cert.Kernel.Facts] [hI : Cert.KernelIdeal.Facts]

/-- The frame of the second print, read at machine floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The two statements are one. -/
theorem frames_same : Cert.quiescent_Kernel = FrameBits := by
  sl_kernel_rfl

end Cert.DropBlock

end
-- ==== Proof.ApplyBody.lean ====
/-
  The body of the first pallas_call (mask, dilation, product, count), run at one grid point: from the values its
  staging buffers hold before, the values they hold after, as explicit expressions.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.DropBlock

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One copy of the pipeline library's algebra for each of the two entries of a pipeline. -/
abbrev UU : Type := IProdConst (Fin 2) (UR sig nD τ) × Counters

local notation "𝕄" => MT nD τ sig Unit (Elt F) ℕ UU ℕ

/-- The random words the body draws at block `b`: the generator seeded with `b`. -/
def drawn (b : ℕ) : IVec S192x56x56 32 :=
  prngBits S192x56x56 rank2_S192x56x56 fun j => prngStream [(BitVec.ofNat 32 b).toNat.toUInt32] (0 + j.val)

/-- The only index of a one-by-one buffer. -/
abbrev o11 : S1x1.Idx := fun a => ⟨0, by fin_cases a <;> decide⟩

/-- The complement of the dilated mask of block `b`, from the rate and the array of valid positions. -/
def keep (b : ℕ) (g : Vec F S1x1 .f32) (valid : Vec F S1x1x56x56 .f32) : FVec F S192x56x56 .f32 :=
  k0_pay3 (g o11) valid (drawn b)

theorem zero2 : (![0, 0] : Fin 2 → Nat) = fun _ => 0 := funext fun a => by fin_cases a <;> rfl
theorem zero4 : (![0, 0, 0, 0] : Fin 4 → Nat) = fun _ => 0 := funext fun a => by fin_cases a <;> rfl

theorem one_one (y : S1x1.Idx) : y = o11 := by
  funext a
  have h : ∀ a : Fin 2, S1x1.size a = 1 := by decide
  apply Fin.ext
  have := (y a).isLt
  have := h a
  show (y a).val = 0
  omega

/-- The body's branch is taken at the first block. -/
abbrev First (i : grid0.Coords) : Prop := (Scalar.cmpi .ne (Scalar.extui (Scalar.cmpi .eq (BitVec.ofNat 32 (i 0).val) 0#32)) 0#32) = 1#1

set_option maxHeartbeats 1000000 in
/-- The body at a later block: the product is stored, and the block's count is added to the running count. -/
theorem apply_later (c : Dev nD) (i : grid0.Coords) (arg1 : Memref sig .tc .smem S1x1 .f32) (harg1 : arg1.IsWhole) (arg2 : Memref sig .tc .vmem S1x1x56x56 .f32) (harg2 : arg2.IsWhole) (arg3 : Memref sig .tc .vmem S1x192x56x56 .f32) (harg3 : arg3.IsWhole) (arg4 : Memref sig .tc .vmem S1x192x56x56 .f32) (harg4 : arg4.IsWhole) (arg5 : Memref sig .tc .smem S1x1 .f32) (harg5 : arg5.IsWhole) (hc : ¬First i)
    (x0 : Vec F S1x1 .f32) (x1 : Vec F S1x1x56x56 .f32) (x2 : Vec F S1x192x56x56 .f32) (n : Vec F S1x1 .f32) (g : PrngReg)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare n ∗ prngReg c g
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (keep (i 0).val x0 x1) x2)
            ∗ owns (c : Thread nD τ) arg5 fullShare (fun _ => k0_pay2 (keep (i 0).val x0 x1) (n o11)) ∗ (∃ r, prngReg c r)) -∗ K ⟨⟩))
      ⊢ wp frame (wpE (defs₀ (F := F)) Variants.none c none) E (cc0__apply_body i arg1 harg1 arg2 harg2 arg3 harg3 arg4 harg4 arg5 harg5) K := by
  simp only [cc0__apply_body_eq_skeleton]; unfold cc0__apply_body_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, Hg, Hk⟩
  obtain rfl := harg1.eq_unread hf0; obtain rfl := harg2.eq_unread hf1; obtain rfl := harg3.eq_unread hf2; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (View.cover_of_tiledL _ S1x192x56x56.size (by sl_kernel_rfl)), View.canon_unit_zero zero4]
    sl_unfold_words
    simp only [View.readAt_eq_ld, harg1.read_unread, harg2.read_unread, harg3.read_unread, View.ld_unit_zero (S := S1x192x56x56) zero4,
      View.ld_unit_zero (S := S1x1x56x56) zero4]
    exact congrArg (fun v => k0_pay1 (k0_pay3 v x1 (drawn (i 0).val)) x2) (congrArg x0 (one_one _))
  isplitl [H4]
  · iexists _; isplitr
    swap; · iexact H4
    ipureintro
    rw [View.read_writes_eq_canon _ _ _ (View.cover_of_tiledL _ S1x1.size (by sl_kernel_rfl)), View.canon_unit_zero (S := S1x1) zero2]
    sl_unfold_words
    simp only [View.readAt_eq_ld, harg1.read_unread, harg2.read_unread, harg5.read_unread,
      View.ld_unit_zero (S := S1x1x56x56) zero4]
    exact congrArg₂ (fun v w => fun _ => k0_pay2 (k0_pay3 v x1 (drawn (i 0).val)) w) (congrArg x0 (one_one _)) (congrArg n (one_one _))
  iexists _; iexact Hg

set_option maxHeartbeats 1000000 in
/-- The body at the first block: the product is stored, and the running count is reset and then the block's count added. -/
theorem apply_first (c : Dev nD) (i : grid0.Coords) (arg1 : Memref sig .tc .smem S1x1 .f32) (harg1 : arg1.IsWhole) (arg2 : Memref sig .tc .vmem S1x1x56x56 .f32) (harg2 : arg2.IsWhole) (arg3 : Memref sig .tc .vmem S1x192x56x56 .f32) (harg3 : arg3.IsWhole) (arg4 : Memref sig .tc .vmem S1x192x56x56 .f32) (harg4 : arg4.IsWhole) (arg5 : Memref sig .tc .smem S1x1 .f32) (harg5 : arg5.IsWhole) (hc : First i)
    (x0 : Vec F S1x1 .f32) (x1 : Vec F S1x1x56x56 .f32) (x2 : Vec F S1x192x56x56 .f32) (g : PrngReg)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ prngReg c g
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (keep (i 0).val x0 x1) x2)
            ∗ owns (c : Thread nD τ) arg5 fullShare (fun _ => k0_pay2 (keep (i 0).val x0 x1) (Scalar.ofBits .f32 0x00000000#32)) ∗ (∃ r, prngReg c r)) -∗ K ⟨⟩))
      ⊢ wp frame (wpE (defs₀ (F := F)) Variants.none c none) E (cc0__apply_body i arg1 harg1 arg2 harg2 arg3 harg3 arg4 harg4 arg5 harg5) K := by
  simp only [cc0__apply_body_eq_skeleton]; unfold cc0__apply_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hg, Hk⟩
  obtain rfl := harg1.eq_unread hf0; obtain rfl := harg2.eq_unread hf1; obtain rfl := harg3.eq_unread hf2
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (View.cover_of_tiledL _ S1x192x56x56.size (by sl_kernel_rfl)), View.canon_unit_zero zero4]
    sl_unfold_words
    simp only [View.readAt_eq_ld, harg1.read_unread, harg2.read_unread, harg3.read_unread, View.ld_unit_zero (S := S1x192x56x56) zero4,
      View.ld_unit_zero (S := S1x1x56x56) zero4]
    exact congrArg (fun v => k0_pay1 (k0_pay3 v x1 (drawn (i 0).val)) x2) (congrArg x0 (one_one _))
  isplitl [H4]
  · iexists _; isplitr
    swap; · iexact H4
    ipureintro
    rw [View.read_writes_eq_canon _ _ _ (View.cover_of_tiledL _ S1x1.size (by sl_kernel_rfl)), View.canon_cons_unit_zero (S := S1x1) zero2]
    sl_unfold_words
    simp only [View.readAt_eq_ld, harg1.read_unread, harg2.read_unread,
      View.ld_unit_zero (S := S1x1x56x56) zero4]
    exact congrArg (fun v => fun _ => k0_pay2 (k0_pay3 v x1 (drawn (i 0).val)) (Scalar.ofBits .f32 0x00000000#32)) (congrArg x0 (one_one _))
  iexists _; iexact Hg

end Cert.DropBlock

end
-- ==== Proof.Region0.lean ====
/-
  The first pallas_call as a pipeline: at the buffer contents `V` it is entered with, what its staging buffers hold after
  each block, and that its body does what these values say.
-/
module

public import proofs.«01_k».proof.Proof.ApplyBody

@[expose] public section

set_option maxRecDepth 16384

noncomputable section

namespace Cert.DropBlock

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the block at every point, for proof data that has the array and leaves the
block in place. -/

theorem held0_0 {c : Dev nD} (dat : Dat τ (Elt F) Unit ℕ UU ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]) t d).trans
    (by unfold Dat.fetched Dat.blockOf blk0; rw [hA]; try rfl)
theorem held0_1 {c : Dev nD} (dat : Dat τ (Elt F) Unit ℕ UU ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]) t d).trans
    (by unfold Dat.fetched Dat.blockOf blk0; rw [hA]; try rfl)
theorem held0_2 {c : Dev nD} (dat : Dat τ (Elt F) Unit ℕ UU ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]) t d).trans
    (by unfold Dat.fetched Dat.blockOf blk0; rw [hA]; try rfl)

/-- The grid has one axis: a point's coordinate is the point. -/
theorem coord0 (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  omega

theorem first_iff (t : Fin cfg0.N) : First (grid0.coords t) ↔ t.val = 0 := by
  have ht : t.val < 32 := Nat.lt_of_lt_of_eq t.isLt N_0
  simp only [First, coord0]
  have h : (∀ k : Fin 32, (Scalar.cmpi .ne (Scalar.extui (Scalar.cmpi .eq (BitVec.ofNat 32 k.val) 0#32)) 0#32) = 1#1 ↔ k.val = 0) := by
    decide +kernel
  exact h ⟨t.val, ht⟩

/-- The staging memrefs at point `t`, and that each is whole. -/
abbrev st0_0' (t : Fin cfg0.N) : Memref sig .tc .smem S1x1 .f32 := win0_0.stage (cfg0.slots t 0)
abbrev sh0_0 (t : Fin cfg0.N) : (st0_0' t).IsWhole := hstage0_0 ((cfg0.slots t 0).cast nbuf0_0)
abbrev st0_1' (t : Fin cfg0.N) : Memref sig .tc .vmem S1x1x56x56 .f32 := win0_1.stage (cfg0.slots t 1)
abbrev sh0_1 (t : Fin cfg0.N) : (st0_1' t).IsWhole := hstage0_1 ((cfg0.slots t 1).cast nbuf0_1)
abbrev st0_2' (t : Fin cfg0.N) : Memref sig .tc .vmem S1x192x56x56 .f32 := win0_2.stage (cfg0.slots t 2)
abbrev sh0_2 (t : Fin cfg0.N) : (st0_2' t).IsWhole := hstage0_2 ((cfg0.slots t 2).cast nbuf0_2)
abbrev st0_3' (t : Fin cfg0.N) : Memref sig .tc .vmem S1x192x56x56 .f32 := win0_3.stage (cfg0.slots t 3)
abbrev sh0_3 (t : Fin cfg0.N) : (st0_3' t).IsWhole := hstage0_3 ((cfg0.slots t 3).cast nbuf0_3)
abbrev st0_4' (t : Fin cfg0.N) : Memref sig .tc .smem S1x1 .f32 := win0_4.stage (cfg0.slots t 4)
abbrev sh0_4 (t : Fin cfg0.N) : (st0_4' t).IsWhole := hstage0_4 ((cfg0.slots t 4).cast nbuf0_4)

/-- The complement of block `t`'s dilated mask. -/
def keepAt (c : Dev nD) (t : Fin cfg0.N) : FVec F S192x56x56 .f32 := keep t.val (blk0 V c 0 t) (blk0 V c 1 t)

/-- The product stored for block `t`. -/
def prodAt (c : Dev nD) (t : Fin cfg0.N) : Vec F S1x192x56x56 .f32 := k0_pay1 (keepAt V c t) (blk0 V c 2 t)

/-- The running count after block `n`. -/
def countTo (c : Dev nD) : (n : ℕ) → n < cfg0.N → F .f32
  | 0, h => k0_pay2 (keepAt V c ⟨0, h⟩) (Scalar.ofBits .f32 0x00000000#32)
  | n + 1, h => k0_pay2 (keepAt V c ⟨n + 1, h⟩) (countTo c n (Nat.lt_of_succ_lt h))

theorem countTo_first (c : Dev nD) (t : Fin cfg0.N) (h : t.val = 0) :
    countTo V c t.val t.isLt = k0_pay2 (keepAt V c t) (Scalar.ofBits .f32 0x00000000#32) := by
  obtain ⟨n, hn⟩ := t
  cases n with
  | zero => rfl
  | succ n => exact absurd h (Nat.succ_ne_zero n)

theorem countTo_later (c : Dev nD) (t : Fin cfg0.N) (h : ¬t.val = 0) :
    countTo V c t.val t.isLt = k0_pay2 (keepAt V c t) (countTo V c (t.val - 1) (Nat.lt_of_le_of_lt (Nat.sub_le _ _) t.isLt)) := by
  obtain ⟨n, hn⟩ := t
  cases n with
  | zero => exact absurd rfl h
  | succ n => rfl

/-- The proof data of the first pipeline. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => prodAt V c t
    | ⟨4, _⟩ => fun _ => countTo V c t.val t.isLt
  Φ _ := Pipeline.ΦA spec0 c
  q _ := fullShare
  owed _ := 0

theorem arr0_eq (c : Dev nD) (w : Fin cfg0.W) : (dat0 V c).A w = V c (Pipeline.arrRef spec0 w) := by dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = prodAt V c t := by dsimp only [dat0]
theorem after0_4 (c : Dev nD) (t : Fin cfg0.N) : (dat0 V c).after 4 t = fun _ => countTo V c t.val t.isLt := by dsimp only [dat0]

theorem before0_0 (c : Dev nD) (t : Fin cfg0.N) (d) : (dat0 V c).before 0 t d = blk0 V c 0 t :=
  held0_0 V (dat0 V c) (arr0_eq V c 0) (after0_0 V c) t d
theorem before0_1 (c : Dev nD) (t : Fin cfg0.N) (d) : (dat0 V c).before 1 t d = blk0 V c 1 t :=
  held0_1 V (dat0 V c) (arr0_eq V c 1) (after0_1 V c) t d
theorem before0_2 (c : Dev nD) (t : Fin cfg0.N) (d) : (dat0 V c).before 2 t d = blk0 V c 2 t :=
  held0_2 V (dat0 V c) (arr0_eq V c 2) (after0_2 V c) t d
/-- After the first block the count's staging buffer still holds the count so far: it is written back only at the end. -/
theorem before0_4 (c : Dev nD) (t : Fin cfg0.N) (h0 : ¬t.val = 0) (d) :
    (dat0 V c).before 4 t d = fun _ => countTo V c (t.val - 1) (Nat.lt_of_le_of_lt (Nat.sub_le _ _) t.isLt) := by
  have hN : t.val < 32 := lt_of_lt_of_eq t.isLt (show cfg0.N = 32 from N_0)
  rw [Dat.before_out_kept _ 4 rfl t h0 (Bool.eq_false_iff.mpr fun h => by have := (flush0_4 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0' t) fullShare ((dat0 V c).before 0 t d))
    ∗ (∃ d, owns (c : Thread nD τ) (st0_1' t) fullShare ((dat0 V c).before 1 t d))
    ∗ (∃ d, owns (c : Thread nD τ) (st0_2' t) fullShare ((dat0 V c).before 2 t d))
    ∗ (∃ d, owns (c : Thread nD τ) (st0_3' t) fullShare ((dat0 V c).before 3 t d))
    ∗ (∃ d, owns (c : Thread nD τ) (st0_4' t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0' t) fullShare ((dat0 V c).after 0 t)
    ∗ owns (c : Thread nD τ) (st0_1' t) fullShare ((dat0 V c).after 1 t)
    ∗ owns (c : Thread nD τ) (st0_2' t) fullShare ((dat0 V c).after 2 t)
    ∗ owns (c : Thread nD τ) (st0_3' t) fullShare ((dat0 V c).after 3 t)
    ∗ owns (c : Thread nD τ) (st0_4' t) fullShare ((dat0 V c).after 4 t))

set_option maxHeartbeats 800000 in
/-- The body at any point does what the proof data says. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).Φ t.castSucc = Pipeline.ΦA spec0 c from rfl]; unfold Pipeline.ΦA
  by_cases h0 : t.val = 0
  · rw [countTo_first V c t h0]
    have hrun := fun g => apply_first (F := F) c (grid0.coords t) (st0_0' t) (sh0_0 t) (st0_1' t) (sh0_1 t) (st0_2' t) (sh0_2 t) (st0_3' t) (sh0_3 t)
      (st0_4' t) (sh0_4 t) ((first_iff t).mpr h0) (blk0 V c 0 t) (blk0 V c 1 t) (blk0 V c 2 t) g Set.univ
    simp only [coord0] at hrun
    iintro ⟨⟨Hr, ⟨%g, Hg⟩⟩, Ho, ⟨%d0, H0⟩, ⟨%d1, H1⟩, ⟨%d2, H2⟩, ⟨%d3, H3⟩, ⟨%d4, H4⟩⟩
    iapply (hrun g _)
    isplitl [H0]; · iexact H0
    isplitl [H1]; · iexact H1
    isplitl [H2]; · iexact H2
    isplitl [H3]; · iexists _; iexact H3
    isplitl [H4]; · iexists _; iexact H4
    isplitl [Hg]; · iexact Hg
    iintro ⟨H0, H1, H2, H3, H4, Hg⟩
    isplitl [Hr Hg]
    · isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [countTo_later V c t h0]
    simp only [before0_4 V c t h0]
    have hrun := fun g => apply_later (F := F) c (grid0.coords t) (st0_0' t) (sh0_0 t) (st0_1' t) (sh0_1 t) (st0_2' t) (sh0_2 t) (st0_3' t) (sh0_3 t)
      (st0_4' t) (sh0_4 t) (fun h => h0 ((first_iff t).mp h)) (blk0 V c 0 t) (blk0 V c 1 t) (blk0 V c 2 t)
      (fun _ => countTo V c (t.val - 1) (Nat.lt_of_le_of_lt (Nat.sub_le _ _) t.isLt)) g Set.univ
    simp only [coord0] at hrun
    iintro ⟨⟨Hr, ⟨%g, Hg⟩⟩, Ho, ⟨%d0, H0⟩, ⟨%d1, H1⟩, ⟨%d2, H2⟩, ⟨%d3, H3⟩, ⟨%d4, H4⟩⟩
    iapply (hrun g _)
    isplitl [H0]; · iexact H0
    isplitl [H1]; · iexact H1
    isplitl [H2]; · iexact H2
    isplitl [H3]; · iexists _; iexact H3
    isplitl [H4]; · iexact H4
    isplitl [Hg]; · iexact Hg
    iintro ⟨H0, H1, H2, H3, H4, Hg⟩
    isplitl [Hr Hg]
    · isplitl [Hr]; · iexact Hr
      iexact Hg
    isplitl [Ho]; · iexact Ho
    isplitl [H0]; · iexact H0
    isplitl [H1]; · iexact H1
    isplitl [H2]; · iexact H2
    isplitl [H3]; · iexact H3
    iexact H4

theorem body_row0 (t : Fin cfg0.N) :
    defs₀ (F := F) .tc cfg0.body (cfg0.bodyArgs t (cfg0.slots t)) = bodyAt0 t := by
  unfold defs₀; rw [Defs.onTc_tc]

/-- The pipeline library's obligation on the body. -/
theorem obligation0 (c : Dev nD) : BodyObligation (dat0 (F := F) V c) (defs₀ (F := F)) Variants.none () Set.univ := fun t => by
  rw [bigSep_W0, bigSep_W0, body_row0]
  exact triple_restated (sound_body0 V c t) rfl .rfl fun _ => .rfl

end Cert.DropBlock

end
-- ==== Proof.Region1.lean ====
/-
  The second pallas_call (the product with the scale) as a pipeline: at the buffer contents `V` it is entered with, what its
  staging buffers hold after each block, and that its body does what these values say.
-/
module

public import proofs.«01_k».proof.Proof.ApplyBody

@[expose] public section

set_option maxRecDepth 16384

noncomputable section

namespace Cert.DropBlock

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 1000000 in
/-- The body at a block: the product with the scale is stored. -/
theorem rescale_run (c : Dev nD) (i : grid1.Coords) (arg1 : Memref sig .tc .smem S1x1 .f32) (harg1 : arg1.IsWhole) (arg2 : Memref sig .tc .vmem S1x192x56x56 .f32) (harg2 : arg2.IsWhole) (arg3 : Memref sig .tc .vmem S1x192x56x56 .f32) (harg3 : arg3.IsWhole)
    (x0 : Vec F S1x1 .f32) (x1 : Vec F S1x192x56x56 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 (x0 o11))) -∗ K ⟨⟩))
      ⊢ wp frame (wpE (defs₀ (F := F)) Variants.none c none) E (cc1__rescale_body i arg1 harg1 arg2 harg2 arg3 harg3) K := by
  simp only [cc1__rescale_body_eq_skeleton]; unfold cc1__rescale_body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (View.cover_of_tiledL _ S1x192x56x56.size (by sl_kernel_rfl)), View.canon_unit_zero zero4]
  sl_unfold_words
  simp only [View.readAt_eq_ld, harg1.read_unread, harg2.read_unread, View.ld_unit_zero (S := S1x192x56x56) zero4]
  exact congrArg (fun v => k1_pay1 x1 v) (congrArg x0 (one_one _))

variable (V : (c : Dev nD) → (b : Ref sig .tc) → Buf (Elt F) ((c : Thread nD τ).loc b))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the block at every point, for proof data that has the array and leaves the
block in place. -/

theorem held1_0 {c : Dev nD} (dat : Dat τ (Elt F) Unit ℕ UU ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]) t d).trans
    (by unfold Dat.fetched Dat.blockOf blk1; rw [hA]; try rfl)
theorem held1_1 {c : Dev nD} (dat : Dat τ (Elt F) Unit ℕ UU ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]) t d).trans
    (by unfold Dat.fetched Dat.blockOf blk1; rw [hA]; try rfl)

/-- The staging memrefs at point `t`, and that each is whole. -/
abbrev st1_0' (t : Fin cfg1.N) : Memref sig .tc .smem S1x1 .f32 := win1_0.stage (cfg1.slots t 0)
abbrev sh1_0 (t : Fin cfg1.N) : (st1_0' t).IsWhole := hstage1_0 ((cfg1.slots t 0).cast nbuf1_0)
abbrev st1_1' (t : Fin cfg1.N) : Memref sig .tc .vmem S1x192x56x56 .f32 := win1_1.stage (cfg1.slots t 1)
abbrev sh1_1 (t : Fin cfg1.N) : (st1_1' t).IsWhole := hstage1_1 ((cfg1.slots t 1).cast nbuf1_1)
abbrev st1_2' (t : Fin cfg1.N) : Memref sig .tc .vmem S1x192x56x56 .f32 := win1_2.stage (cfg1.slots t 2)
abbrev sh1_2 (t : Fin cfg1.N) : (st1_2' t).IsWhole := hstage1_2 ((cfg1.slots t 2).cast nbuf1_2)

/-- The rescaled product stored for block `t`. -/
def scaledAt (c : Dev nD) (t : Fin cfg1.N) : Vec F S1x192x56x56 .f32 :=
  k1_pay1 (blk1 V c 1 t : Vec F S1x192x56x56 .f32) ((blk1 V c 0 t : Vec F S1x1 .f32) o11)

/-- The proof data of the second pipeline. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => scaledAt V c t
  Φ _ := Pipeline.ΦA spec1 c
  q _ := fullShare
  owed _ := 0

theorem arr1_eq (c : Dev nD) (w : Fin cfg1.W) : (dat1 V c).A w = V c (Pipeline.arrRef spec1 w) := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = scaledAt V c t := by dsimp only [dat1]

theorem before1_0 (c : Dev nD) (t : Fin cfg1.N) (d) : (dat1 V c).before 0 t d = blk1 V c 0 t :=
  held1_0 V (dat1 V c) (arr1_eq V c 0) (after1_0 V c) t d
theorem before1_1 (c : Dev nD) (t : Fin cfg1.N) (d) : (dat1 V c).before 1 t d = blk1 V c 1 t :=
  held1_1 V (dat1 V c) (arr1_eq V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0' t) fullShare ((dat1 V c).before 0 t d))
    ∗ (∃ d, owns (c : Thread nD τ) (st1_1' t) fullShare ((dat1 V c).before 1 t d))
    ∗ (∃ d, owns (c : Thread nD τ) (st1_2' t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0' t) fullShare ((dat1 V c).after 0 t)
    ∗ owns (c : Thread nD τ) (st1_1' t) fullShare ((dat1 V c).after 1 t)
    ∗ owns (c : Thread nD τ) (st1_2' t) fullShare ((dat1 V c).after 2 t))

/-- The body at any point does what the proof data says. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (rescale_run (F := F) c (grid1.coords t) (st1_0' t) (sh1_0 t) (st1_1' t) (sh1_1 t) (st1_2' t) (sh1_2 t) (blk1 V c 0 t) (blk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_row1 (t : Fin cfg1.N) :
    defs₀ (F := F) .tc cfg1.body (cfg1.bodyArgs t (cfg1.slots t)) = bodyAt1 t := by
  unfold defs₀; rw [Defs.onTc_tc]

/-- The pipeline library's obligation on the body. -/
theorem obligation1 (c : Dev nD) : BodyObligation (dat1 (F := F) V c) (defs₀ (F := F)) Variants.none () Set.univ := fun t => by
  rw [bigSep_W1, bigSep_W1, body_row1]
  exact triple_restated (sound_body1 V c t) rfl .rfl fun _ => .rfl

end Cert.DropBlock

end
-- ==== Proof.Run.lean ====
/-
  The whole run of the kernel: host operations, the first pallas_call, the host's comparison of the count, and the branch, whose
  first arm divides and runs the second pallas_call and whose second arm copies the product. What every buffer holds at the end is
  `Wend`, written as a fold over these items.
-/
module

public import proofs.«01_k».proof.Proof.Region0
public import proofs.«01_k».proof.Proof.Region1
public import Idealize.ShloMosaic.Lib.Pipeline.RegionsCase
public import Idealize.ShloMosaic.Lib.HostLoop.Lifted
public import Idealize.ShloMosaic.Lib.HostLoop.Plain

@[expose] public section

set_option maxRecDepth 16384

noncomputable section

namespace Cert.DropBlock

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf CSeg CaseSeg Ticket)

variable {F : FTy → Type} [FloatOps F]

local notation "𝕄" => MT nD τ sig Unit (Elt F) ℕ UU ℕ

variable (m : (ℓ : Loc nD τ sig) → Buf (Elt F) ℓ)

/-! ## The operations of the branch -/

/-- The comparison's outcome, widened to the word that the branch takes. -/
abbrev wordOp : HloOp τ sig (Elt F) :=
  StableHlo.unary main_v12 main_v13 ((extui 32 · natLt_1_32) : (⟨S_, .i1⟩ : BufTy).Contents (Elt F) → (⟨S_, .i32⟩ : BufTy).Contents (Elt F))

/-- The division. -/
abbrev divOps : List (HloOp τ sig (Elt F)) :=
  [ StableHlo.nullary main_case0b0_cst_1 (constant S_ .f32 0x4B930000#32),
    StableHlo.unary main_case0b0_cst_1 main_case0b0_v15 (broadcastInDim S1x1 ![] bcast_S_S1x1 : (⟨S_, .f32⟩ : BufTy).Contents (Elt F) → (⟨S1x1, .f32⟩ : BufTy).Contents (Elt F)),
    StableHlo.binary main_case0b0_v15 main_v10_1 main_case0b0_v16 (Host.divf : (⟨S1x1, .f32⟩ : BufTy).Contents (Elt F) → (⟨S1x1, .f32⟩ : BufTy).Contents (Elt F) → (⟨S1x1, .f32⟩ : BufTy).Contents (Elt F)) ]

/-- The rescaled product into the result; the product itself into the result. -/
abbrev copyA : List (HloOp τ sig (Elt F)) := [StableHlo.unary main_case0b0_v17 main_v14 id]
abbrev copyB : List (HloOp τ sig (Elt F)) := [StableHlo.unary main_v10_0 main_v14 id]

theorem sub_of_forall {ops : List (HloOp τ sig (Elt F))} (h : ops.Forall fun op => op.bufs ⊆ StableHlo.tcRefs τ sig) :
    ∀ op ∈ ops, op.bufs ⊆ Pipeline.ucRefs τ sig := fun op hop => Pipeline.sub_ucRefs op ((List.forall_iff_forall_mem.mp h) op hop)

theorem hostOps0_sub' : ∀ op ∈ (hostOps0 : List (HloOp τ sig (Elt F))), op.bufs ⊆ Pipeline.ucRefs τ sig := sub_of_forall hostOps0_sub
theorem hostOps1_sub' : ∀ op ∈ (hostOps1 : List (HloOp τ sig (Elt F))), op.bufs ⊆ Pipeline.ucRefs τ sig := sub_of_forall hostOps1_sub
theorem divOps_sub : ∀ op ∈ (divOps : List (HloOp τ sig (Elt F))), op.bufs ⊆ Pipeline.ucRefs τ sig :=
  sub_of_forall ⟨StableHlo.nullary_bufs_sub .., StableHlo.unary_bufs_sub .., StableHlo.binary_bufs_sub ..⟩
theorem copyA_sub : ∀ op ∈ (copyA : List (HloOp τ sig (Elt F))), op.bufs ⊆ Pipeline.ucRefs τ sig := sub_of_forall (StableHlo.unary_bufs_sub ..)
theorem copyB_sub : ∀ op ∈ (copyB : List (HloOp τ sig (Elt F))), op.bufs ⊆ Pipeline.ucRefs τ sig := sub_of_forall (StableHlo.unary_bufs_sub ..)

theorem fresh_of_forall {ops : List (HloOp τ sig (Elt F))} (h : ops.Forall fun op => op.fresh = ∅) : ∀ op ∈ ops, op.fresh = ∅ :=
  List.forall_iff_forall_mem.mp h
theorem hostOps0_fresh : ∀ op ∈ (hostOps0 : List (HloOp τ sig (Elt F))), op.fresh = ∅ :=
  fresh_of_forall (by simp only [List.Forall]; repeat' constructor)
theorem hostOps1_fresh : ∀ op ∈ (hostOps1 : List (HloOp τ sig (Elt F))), op.fresh = ∅ :=
  fresh_of_forall (by simp only [List.Forall]; repeat' constructor)
theorem divOps_fresh : ∀ op ∈ (divOps : List (HloOp τ sig (Elt F))), op.fresh = ∅ :=
  fresh_of_forall (by simp only [List.Forall]; repeat' constructor)
theorem copyA_fresh : ∀ op ∈ (copyA : List (HloOp τ sig (Elt F))), op.fresh = ∅ := fresh_of_forall rfl
theorem copyB_fresh : ∀ op ∈ (copyB : List (HloOp τ sig (Elt F))), op.fresh = ∅ := fresh_of_forall rfl

/-! ## The buffer contents between the items -/

/-- At launch; after the first host operations; after the first pallas_call; after the comparison; after the read of its outcome. -/
abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev W4 : Dev nD → Valuation τ sig (Elt F) := fun c => StableHlo.after [wordOp] (W3 m c)
/-- The word the branch takes. -/
abbrev word (c : Dev nD) : BitVec 32 := W4 m c main_v13 HostLoop.idx0
/-- In the first arm: after the division; after the second pallas_call; after the copy. -/
abbrev W5 : Dev nD → Valuation τ sig (Elt F) := fun c => StableHlo.after divOps (W4 m c)
abbrev V5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
abbrev W7 : Dev nD → Valuation τ sig (Elt F) := fun c => StableHlo.after copyA (W6 m c)
/-- In the second arm: after the copy. -/
abbrev W8 : Dev nD → Valuation τ sig (Elt F) := fun c => StableHlo.after copyB (W4 m c)
/-- At the end. -/
def Wend (c : Dev nD) : Valuation τ sig (Elt F) := if HostLoop.branch (word m c) 1 = 0 then W7 m c else W8 m c

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem rest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-! ## The two pallas_calls as segments -/

abbrev adm : (p : Fin 2) → (pcfgs (F := F) p).Adm := fun p => (cfgs p).toPCfg_adm
/-- Each pipeline's proof data, at the contents it is entered with. -/
def pdats : (p : Fin 2) → (c : Dev nD) → Dat τ (Elt F) Unit ℕ UU ℕ (Pipeline.pin (pcfgs (F := F)) adm p) c
  | ⟨0, _⟩ => fun c => dat0 (V1 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- Every buffer at the contents `W`. -/
abbrev state (W : Dev nD → Valuation τ sig (Elt F)) (c : Dev nD) : sProp 𝕄 :=
  iprop(StableHlo.held (c : Thread nD τ) (Pipeline.ucRefs τ sig) (W c) ∗ R c)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre := state (W1 m)
  post := state (W2 m)
  X c := iprop(∃ r, prngReg c r)
  Y c := iprop(∃ r, prngReg c r)
  Z c := Pipeline.unscopedRest (Ix := Unit) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (arr0_eq (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pdats m) ((pdats m 0 c).share_full fun _ => rfl)
      (V1 m c) (V2 m c) ((pdats m 0 c).arrAt · cfg0.N) (fun w => (W2_arr m c w).symm) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V5 m) c).loose
  hwaits := Pipeline.hwaits_of_owed_zero _ _ _ _ L lv 1 fun _ _ => rfl
  pre := state (W5 m)
  post := state (W6 m)
  X c := iprop(∃ r, prngReg c r)
  Y c := iprop(∃ r, prngReg c r)
  Z c := Pipeline.unscopedRest (Ix := Unit) (Name := ℕ) (U := UU) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) (arr1_eq (V5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UU) (Lvl := ℕ)
      launch1.win launch1.arr_whole c (pdats m) ((pdats m 1 c).share_full fun _ => rfl)
      (V5 m c) (V6 m c) ((pdats m 1 c).arrAt · cfg1.N) (fun w => (W6_arr m c w).symm) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.DropBlock

end
-- ==== Proof.Items.lean ====
/-
  The items of @main, the branch among them, and that @main is their run.
-/
module

public import proofs.«01_k».proof.Proof.Run

@[expose] public section

set_option maxRecDepth 16384

noncomputable section

namespace Cert.DropBlock

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf CSeg CaseSeg Ticket)

variable {F : FTy → Type} [FloatOps F]

local notation "𝕄" => MT nD τ sig Unit (Elt F) ℕ UU ℕ

variable (m : (ℓ : Loc nD τ sig) → Buf (Elt F) ℓ)

/-! ## The tickets: one entry of each pallas_call -/

/-- Ticket `j` pays for one entry of pallas_call `j`. -/
def tk : Fin 2 → Ticket (Ix := Unit) (Name := ℕ) (U := UU) (Lvl := ℕ) (nD := nD) (τ := τ) (pcfgs (F := F)) adm
  | 0 => { p := 0, pdats := pdats m, EP := embAt 0 }
  | 1 => { p := 1, pdats := pdats m, EP := embAt 1 }

/-- There is no loop on the host. -/
abbrev loops : Fin 0 → Prog (TpuEff nD τ sig (Elt F) (HostLoop.Sig (Pipeline.Sig Λ₀ (Fin 2) fun p => (pcfgs (F := F) p).Adm) 0) .tc) PUnit := fun l => l.elim0

/-- The kind of the items below. -/
abbrev Item : Type _ := CSeg (pcfgs (F := F)) adm defs₀ 𝒱₀ L lv loops (tk m)

/-- A line of host operations from the contents `W`. -/
def line (ops : List (HloOp τ sig (Elt F))) (hs : ∀ op ∈ ops, op.bufs ⊆ Pipeline.ucRefs τ sig) (hf : ∀ op ∈ ops, op.fresh = ∅)
    (W : Dev nD → Valuation τ sig (Elt F)) : Item m := CSeg.ofOps _ _ _ _ _ _ _ _ (Pipeline.ucRefs τ sig) ops hs hf W R
/-- The two pallas_calls. -/
def call0 : Item m := CSeg.region _ _ () cellOf_inj _ _ _ _ _ _ (0 : Fin 2) (reg0 m)
def call1 : Item m := CSeg.region _ _ () cellOf_inj _ _ _ _ _ _ (1 : Fin 2) (reg1 m)

/-! ## The branch -/

/-- The arms' items. -/
def arms : Fin 2 → List (Item m)
  | 0 => [line m divOps divOps_sub divOps_fresh (W4 m), call1 m, line m copyA copyA_sub copyA_fresh (W6 m)]
  | 1 => [line m copyB copyB_sub copyB_fresh (W4 m)]

/-- The arms as printed, and the read of the word as printed. -/
abbrev armProg : Fin 2 → Prog (TpuEff nD τ sig (Elt F) (HostLoop.Sig (Pipeline.Sig Λ₀ (Fin 2) fun p => (pcfgs (F := F) p).Adm) 0) .tc) PUnit
  | 0 => do
      hlo rfl (StableHlo.nullary main_case0b0_cst_1 (constant S_ .f32 0x4B930000#32)) (fun _ => .ret ⟨⟩)
      hlo rfl (StableHlo.unary main_case0b0_cst_1 main_case0b0_v15 (broadcastInDim S1x1 ![] bcast_S_S1x1 : (⟨S_, .f32⟩ : BufTy).Contents (Elt F) → (⟨S1x1, .f32⟩ : BufTy).Contents (Elt F))) (fun _ => .ret ⟨⟩)
      hlo rfl (StableHlo.binary main_case0b0_v15 main_v10_1 main_case0b0_v16 (Host.divf : (⟨S1x1, .f32⟩ : BufTy).Contents (Elt F) → (⟨S1x1, .f32⟩ : BufTy).Contents (Elt F) → (⟨S1x1, .f32⟩ : BufTy).Contents (Elt F))) (fun _ => .ret ⟨⟩)
      Prog.lift (.customCall (HostLoop.inner (Pipeline.entry 1)) ())
      hlo rfl (StableHlo.unary main_case0b0_v17 main_v14 id) (fun _ => .ret ⟨⟩)
      pure ⟨⟩
  | 1 => do
      hlo rfl (StableHlo.unary main_v10_0 main_v14 id) (fun _ => .ret ⟨⟩)
      pure ⟨⟩
  | ⟨_ + 2, h⟩ => absurd h (Nat.not_lt.2 (Nat.le_add_left _ _))
abbrev readProg : Prog (TpuEff nD τ sig (Elt F) (HostLoop.Sig (Pipeline.Sig Λ₀ (Fin 2) fun p => (pcfgs (F := F) p).Adm) 0) .tc) (BitVec 32) :=
  hlo rfl (wordOp (F := F)) (HostLoop.elt main_v13)

/-- The arm that the word names on every device; there is one device. -/
abbrev taken (b : Fin (1 + 1)) : Prop := ∀ c, b = HostLoop.branch (word m c) 1

set_option backward.isDefEq.respectTransparency.types false in
/-- The read of the word. -/
theorem read_word (c : Dev nD) (bd : Option (Variants.lift 𝒱₀).V) :
    iprop(boundary (c : Thread nD τ) ∗ state (W3 m) c)
      ⊢ wp frame (wpE (HostLoop.defs loops (Pipeline.defs (pcfgs (F := F)) defs₀)) (Variants.lift 𝒱₀) (c : Thread nD τ) bd) Set.univ (readProg (F := F))
          (fun v => iprop(⌜taken m (HostLoop.branch v 1)⌝ ∗ boundary (c : Thread nD τ) ∗ state (W4 m) c)) := by
  unfold readProg
  iintro ⟨Hb, Hh, HR⟩
  iapply (StableHlo.wp_hlo_within (Variants.lift 𝒱₀) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  isplitr
  · ipureintro
    intro c'
    obtain rfl : c = c' := Subsingleton.elim _ _
    rfl
  isplitl [Hb]; · iexact Hb
  isplitl [Hh]; · unfold W4; rw [StableHlo.after_cons, StableHlo.after_nil]; iexact Hh
  iexact HR

/-- Either arm, when taken, leaves the buffers at `Wend`. -/
theorem arms_chain (c : Dev nD) : ∀ b : Fin 2, taken m b → CSeg.ChainsAt c (state (W4 m)) (arms m b) (state (Wend m))
  | 0, h => ⟨.rfl, .rfl, .rfl, by
      have e : Wend m c = W7 m c := if_pos (h c).symm
      show state (W7 m) c ⊢ state (Wend m) c
      unfold state; rw [e]⟩
  | 1, h => ⟨.rfl, by
      have e : Wend m c = W8 m c := if_neg (by rw [← h c]; decide)
      show state (W8 m) c ⊢ state (Wend m) c
      unfold state; rw [e]⟩

set_option backward.isDefEq.respectTransparency.types false in
/-- The branch's record. -/
def branchSeg : CaseSeg (pcfgs (F := F)) adm defs₀ 𝒱₀ L lv loops (tk m) :=
  { on := fun _ => True
    N := 1
    rd := readProg
    br := armProg
    pre := state (W3 m)
    mid := fun _ => state (W4 m)
    post := state (Wend m)
    live := taken m
    hrd := fun c _ bd => read_word m c bd
    segs := arms m
    hch := fun c _ v h => arms_chain m c _ h
    hbr := fun b _ => by fin_cases b <;> chain_rfl
    B := (Pipeline.pin (pcfgs (F := F)) adm 1).tripCount + 1
    hM := fun b _ s hs => by
      fin_cases b
      · cases hs with
        | head => exact Nat.zero_le _
        | tail _ hs => cases hs with
          | head => exact le_rfl
          | tail _ hs => cases hs with
            | head => exact Nat.zero_le _
            | tail _ hs => cases hs
      · cases hs with
        | head => exact Nat.zero_le _
        | tail _ hs => cases hs
    T := {1}
    hT := fun b _ s hs => by
      fin_cases b
      · cases hs with
        | head => exact Finset.empty_subset _
        | tail _ hs => cases hs with
          | head => exact subset_rfl
          | tail _ hs => cases hs with
            | head => exact Finset.empty_subset _
            | tail _ hs => cases hs
      · cases hs with
        | head => exact Finset.empty_subset _
        | tail _ hs => cases hs
    hdisT := fun b _ => by
      fin_cases b
      · refine List.pairwise_cons.mpr ⟨fun _ _ => Finset.disjoint_empty_left _, List.pairwise_cons.mpr ⟨fun s hs => ?_, List.pairwise_singleton ..⟩⟩
        cases hs with
        | head => exact Finset.disjoint_empty_right _
        | tail _ hs => cases hs
      · exact List.pairwise_singleton .. }

/-! ## The whole of @main -/

/-- @main's items in order. -/
def items : List (Item m) :=
  [ line m hostOps0 hostOps0_sub' hostOps0_fresh (W0 m), call0 m, line m hostOps1 hostOps1_sub' hostOps1_fresh (W2 m),
    CSeg.case _ _ _ _ _ _ _ _ (branchSeg m) ]

/-- @main with room for host loops, of which there are none. -/
abbrev mainL (c : Dev nD) := HostLoop.liftProg (L := 0) (main (F := F) c)

/-- The arms as @main prints them, without the room. -/
abbrev armPlain : Fin 2 → Prog (TpuEff nD τ sig (Elt F) (Pipeline.Sig Λ₀ (Fin 2) fun p => (pcfgs (F := F) p).Adm) .tc) PUnit
  | 0 => do
      hlo rfl (StableHlo.nullary main_case0b0_cst_1 (constant S_ .f32 0x4B930000#32)) (fun _ => .ret ⟨⟩)
      hlo rfl (StableHlo.unary main_case0b0_cst_1 main_case0b0_v15 (broadcastInDim S1x1 ![] bcast_S_S1x1 : (⟨S_, .f32⟩ : BufTy).Contents (Elt F) → (⟨S1x1, .f32⟩ : BufTy).Contents (Elt F))) (fun _ => .ret ⟨⟩)
      hlo rfl (StableHlo.binary main_case0b0_v15 main_v10_1 main_case0b0_v16 (Host.divf : (⟨S1x1, .f32⟩ : BufTy).Contents (Elt F) → (⟨S1x1, .f32⟩ : BufTy).Contents (Elt F) → (⟨S1x1, .f32⟩ : BufTy).Contents (Elt F))) (fun _ => .ret ⟨⟩)
      Prog.lift (.customCall (Pipeline.entry 1) ())
      hlo rfl (StableHlo.unary main_case0b0_v17 main_v14 id) (fun _ => .ret ⟨⟩)
      pure ⟨⟩
  | 1 => do
      hlo rfl (StableHlo.unary main_v10_0 main_v14 id) (fun _ => .ret ⟨⟩)
      pure ⟨⟩
  | ⟨_ + 2, h⟩ => absurd h (Nat.not_lt.2 (Nat.le_add_left _ _))

/-- Each arm with the room is the arm as the items have it. -/
theorem arm_lift (i : Fin 2) : HostLoop.liftProg (L := 0) (armPlain (F := F) i) = armProg i := by
  fin_cases i <;> chain_rfl

/-- So is the whole branch. -/
theorem branch_lift : HostLoop.liftProg (L := 0) ((hlo rfl (wordOp (F := F)) (HostLoop.elt main_v13) :
      Prog (TpuEff nD τ sig (Elt F) (Pipeline.Sig Λ₀ (Fin 2) fun p => (pcfgs (F := F) p).Adm) .tc) (BitVec 32)) >>= fun x => HostLoop.case 2 x armPlain)
    = (readProg (F := F) >>= fun x => HostLoop.case 2 x armProg) := by
  rw [HostLoop.liftProg_bind]
  refine congrArg₂ (fun p f => p >>= f) rfl (funext fun x => ?_)
  rw [HostLoop.liftProg_case]
  exact congrArg (HostLoop.case 2 x) (funext arm_lift)

/-- @main, with the room, is the run of the items. -/
theorem mainL_eq (c : Dev nD) : mainL (F := F) c = CSeg.runL (items m) := by
  have e : main (F := F) c = Pipeline.chain [StableHlo.seq hostOps0, Prog.lift (.customCall (Pipeline.entry 0) ()), StableHlo.seq hostOps1,
      hlo rfl (wordOp (F := F)) (HostLoop.elt main_v13) >>= fun x => HostLoop.case 2 x armPlain] := (main_chain c).trans (by chain_rfl)
  have e' : mainL (F := F) c = Pipeline.chain [StableHlo.seq hostOps0, Prog.lift (.customCall (HostLoop.inner (Pipeline.entry 0)) ()), StableHlo.seq hostOps1,
      readProg (F := F) >>= fun x => HostLoop.case 2 x armProg] := by
    unfold mainL
    rw [e, HostLoop.liftProg_chain]
    rw [List.map_cons, List.map_cons, List.map_cons, List.map_cons, List.map_nil, HostLoop.liftProg_seq, HostLoop.liftProg_seq, branch_lift]
    rfl
  exact e'.trans (by chain_rfl)

end Cert.DropBlock

end
-- ==== Proof.Whole.lean ====
/-
  The run of @main, and that it leaves its arguments as they were.
-/
module

public import proofs.«01_k».proof.Proof.Items

@[expose] public section

set_option maxRecDepth 16384

noncomputable section

namespace Cert.DropBlock

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf CSeg CaseSeg Ticket)

variable {F : FTy → Type} [FloatOps F]

local notation "𝕄" => MT nD τ sig Unit (Elt F) ℕ UU ℕ

variable (m : (ℓ : Loc nD τ sig) → Buf (Elt F) ℓ) (ρ : Dev nD → PrngReg)

/-- Every buffer that outlives the run is among those the items carry; every counter of the machine is scoped. -/
theorem mem_carried (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem no_unscoped : ∀ sm : SemLoc sig, sm.isScoped .tc = true := by decide

/-- The launch's tickets. -/
def tickets : UU := (fun _ => initOf (Pipeline.cells (Pipeline.pin (pcfgs (F := F)) adm) cellOf_inj) (Pipeline.launchToks (Pipeline.pin (pcfgs (F := F)) adm) cellOf_inj), 1)

theorem tickets_split : (ownU (tickets (F := F)) : sProp 𝕄) ⊢
    bigSep Finset.univ fun j => BI.own ((tk m j).EP (initOf (Pipeline.cells (Pipeline.pin (pcfgs (F := F)) adm) cellOf_inj)
      (Pipeline.launchToks (Pipeline.pin (pcfgs (F := F)) adm) cellOf_inj))) := by
  have e : (fun j => BI.own ((tk m j).EP (initOf (Pipeline.cells (Pipeline.pin (pcfgs (F := F)) adm) cellOf_inj)
      (Pipeline.launchToks (Pipeline.pin (pcfgs (F := F)) adm) cellOf_inj))) : Fin 2 → sProp 𝕄)
      = fun j => BI.own (embAt j (initOf (Pipeline.cells (Pipeline.pin (pcfgs (F := F)) adm) cellOf_inj)
      (Pipeline.launchToks (Pipeline.pin (pcfgs (F := F)) adm) cellOf_inj))) := by
    funext j; fin_cases j <;> rfl
  rw [e]
  exact own_iprod (fun _ => initOf (Pipeline.cells (Pipeline.pin (pcfgs (F := F)) adm) cellOf_inj) (Pipeline.launchToks (Pipeline.pin (pcfgs (F := F)) adm) cellOf_inj))

theorem items_disjoint : (items m).Pairwise fun s s' => Disjoint s.T s'.T := by
  unfold items
  refine List.pairwise_cons.mpr ⟨fun _ _ => Finset.disjoint_empty_left _, List.pairwise_cons.mpr ⟨fun s hs => ?_,
    List.pairwise_cons.mpr ⟨fun _ _ => Finset.disjoint_empty_left _, List.pairwise_singleton ..⟩⟩⟩
  cases hs with
  | head => exact Finset.disjoint_empty_right _
  | tail _ hs => cases hs with
    | head => exact Finset.disjoint_singleton.mpr (by decide)
    | tail _ hs => cases hs

theorem items_chain : CSeg.Chains (state (W0 m)) (items m) fun c =>
    iprop((StableHlo.held (c : Thread nD τ) (Pipeline.ucRefs τ sig) (Wend m c) ∗ ∃ r, prngReg c r) ∗ ∃ W, owes (c : Thread nD τ) (0 : CellTallies nD τ sig Unit) W) :=
  ⟨fun _ => .rfl, fun _ => .rfl, fun _ => .rfl, fun _ => CSeg.case_pre _ _ _ _ _ _ _ _ (branchSeg m) trivial, fun c => by
    show state (Wend m) c ⊢ _
    iintro ⟨Hh, Hp, HO⟩
    isplitl [Hh Hp]
    · isplitl [Hh] <;> iassumption
    iexact HO⟩

set_option backward.isDefEq.respectTransparency.types false in
/-- The run, with room for host loops. -/
theorem runL : θ_run (HostLoop.defs loops (Pipeline.defs (pcfgs (F := F)) defs₀)) (onTc (τ := τ) (mainL (F := F))) ⟨m, fun _ => 0, ρ⟩ (fun r =>
      (∀ c : Dev nD, ∀ b ∈ Pipeline.ucRefs τ sig, r.2.mem (((c : Thread nD τ)).1, b) = Wend m c b) ∧ r.2.sem = fun _ => 0) :=
  Pipeline.θ_run_regions_loop_kit_sems (pcfgs (F := F)) adm cellOf_inj defs₀ 𝒱₀ L lv loops (tk m) m ρ mainL (items m)
    (fun c Q => by rw [mainL_eq m c])
    (items_disjoint m)
    (O₀ := 0) (hL := fun _ _ => rfl) (G := fun _ => iprop(emp))
    (u₀ := tickets (F := F))
    (hu₀ := by
      iintro Hu; imodintro
      isplitl [Hu]
      · iapply (tickets_split m); iexact Hu
      iapply (show (BI.emp : sProp 𝕄) ⊢ bigSep Finset.univ (fun _ : Dev nD => (BI.emp : sProp 𝕄)) from by rw [BI.bigSep_emp_const])
      iempintro)
    (T₀ := state (W0 m)) (Tₙ := fun c => iprop(StableHlo.held (c : Thread nD τ) (Pipeline.ucRefs τ sig) (Wend m c) ∗ ∃ r, prngReg c r))
    (hch := items_chain m)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h hz => ⟨h, funext fun g => hz g (.inr (no_unscoped g.2))⟩)

/-- **The run**: from any memory, every weakly fair execution of @main ends, every buffer that outlives it holding `Wend` and every
    counter zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = Wend m c b) ∧ r.2.sem = fun _ => 0) :=
  HostLoop.θ_run_of_lift (fun l => l.elim0) defs main _ _ (runL m ρ)

/-! ## The arguments are not written -/

/-- The references that each line of host operations writes. -/
abbrev wrote0 : List (Ref sig .tc) := [main_v0, main_v1, main_v2, main_c, main_v3, main_v4, main_c_0, main_v5, main_v6, main_v7, main_v8, main_v9]
abbrev wrote1 : List (Ref sig .tc) := [main_v11, main_cst, main_v12]
abbrev wroteDiv : List (Ref sig .tc) := [main_case0b0_cst_1, main_case0b0_v15, main_case0b0_v16]

theorem W1_of (c : Dev nD) (r : Ref sig .tc) (h : r ∉ wrote0) : W1 m c (Proc.devRef .tc r) = W0 m c (Proc.devRef .tc r) :=
  StableHlo.after_of_writes_sub hostOps0 _ (StableHlo.forall_writes_sub_of_map rfl : (hostOps0 : List (HloOp τ sig (Elt F))).Forall fun op => op.writes ⊆ (wrote0.map (Proc.devRef (τ := τ) .tc)).toFinset) h
theorem W3_of (c : Dev nD) (r : Ref sig .tc) (h : r ∉ wrote1) : W3 m c (Proc.devRef .tc r) = W2 m c (Proc.devRef .tc r) :=
  StableHlo.after_of_writes_sub hostOps1 _ (StableHlo.forall_writes_sub_of_map rfl : (hostOps1 : List (HloOp τ sig (Elt F))).Forall fun op => op.writes ⊆ (wrote1.map (Proc.devRef (τ := τ) .tc)).toFinset) h
theorem W4_of (c : Dev nD) (r : Ref sig .tc) (h : r ∉ [main_v13]) : W4 m c (Proc.devRef .tc r) = W3 m c (Proc.devRef .tc r) :=
  StableHlo.after_of_writes_sub [wordOp] _ (StableHlo.forall_writes_sub_of_map rfl : ([wordOp] : List (HloOp τ sig (Elt F))).Forall fun op => op.writes ⊆ ([main_v13].map (Proc.devRef (τ := τ) .tc)).toFinset) h
theorem W5_of (c : Dev nD) (r : Ref sig .tc) (h : r ∉ wroteDiv) : W5 m c (Proc.devRef .tc r) = W4 m c (Proc.devRef .tc r) :=
  StableHlo.after_of_writes_sub divOps _ (StableHlo.forall_writes_sub_of_map rfl : (divOps : List (HloOp τ sig (Elt F))).Forall fun op => op.writes ⊆ (wroteDiv.map (Proc.devRef (τ := τ) .tc)).toFinset) h
theorem W7_of (c : Dev nD) (r : Ref sig .tc) (h : r ∉ [main_v14]) : W7 m c (Proc.devRef .tc r) = W6 m c (Proc.devRef .tc r) :=
  StableHlo.after_of_writes_sub copyA _ (StableHlo.forall_writes_sub_of_map rfl : (copyA : List (HloOp τ sig (Elt F))).Forall fun op => op.writes ⊆ ([main_v14].map (Proc.devRef (τ := τ) .tc)).toFinset) h
theorem W8_of (c : Dev nD) (r : Ref sig .tc) (h : r ∉ [main_v14]) : W8 m c (Proc.devRef .tc r) = W4 m c (Proc.devRef .tc r) :=
  StableHlo.after_of_writes_sub copyB _ (StableHlo.forall_writes_sub_of_map rfl : (copyB : List (HloOp τ sig (Elt F))).Forall fun op => op.writes ⊆ ([main_v14].map (Proc.devRef (τ := τ) .tc)).toFinset) h

/-- A buffer that is none of a pallas_call's output arrays keeps its contents across it. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (arr0_eq (V1 m) c w))
  · exact W2_of_ne m c r fun w e => hw ⟨w, e⟩
theorem W6_of (c : Dev nD) (r : Ref sig .tc) (h : ∀ w : Fin cfg1.W, Pipeline.arrRef spec1 w = r → (cfg1.win w).isOut = false) :
    W6 m c (Proc.devRef .tc r) = W5 m c (Proc.devRef .tc r) := by
  by_cases hw : ∃ w : Fin cfg1.W, Pipeline.arrRef spec1 w = r
  · obtain ⟨w, rfl⟩ := hw
    exact (W6_arr m c w).trans (((dat1 (V5 m) c).arrAt_in w (h w rfl) _).trans (arr1_eq (V5 m) c w))
  · exact W6_of_ne m c r fun w e => hw ⟨w, e⟩

/-- A buffer that no item writes holds at the end what it held at launch. -/
theorem Wend_of (c : Dev nD) (r : Ref sig .tc)
    (h : r ∉ wrote0 ∧ r ∉ wrote1 ∧ r ∉ [main_v13] ∧ r ∉ wroteDiv ∧ r ∉ [main_v14])
    (h0 : ∀ w : Fin cfg0.W, Pipeline.arrRef spec0 w = r → (cfg0.win w).isOut = false)
    (h1 : ∀ w : Fin cfg1.W, Pipeline.arrRef spec1 w = r → (cfg1.win w).isOut = false) :
    Wend m c (Proc.devRef .tc r) = m ((c : Thread nD τ).loc r) := by
  have e4 : W4 m c (Proc.devRef .tc r) = m ((c : Thread nD τ).loc r) :=
    (W4_of m c r h.2.2.1).trans ((W3_of m c r h.2.1).trans ((W2_of m c r h0).trans (W1_of m c r h.1)))
  unfold Wend
  split
  · exact (W7_of m c r h.2.2.2.2).trans ((W6_of m c r h1).trans ((W5_of m c r h.2.2.2.1).trans e4))
  · exact (W8_of m c r h.2.2.2.2).trans e4

theorem Wend_arg0 (c : Dev nD) : Wend m c (Proc.devRef .tc main_arg0) = m ((c : Thread nD τ).loc main_arg0) :=
  Wend_of m c main_arg0 (by decide +kernel) (by decide +kernel) (by decide +kernel)
theorem Wend_arg1 (c : Dev nD) : Wend m c (Proc.devRef .tc main_arg1) = m ((c : Thread nD τ).loc main_arg1) :=
  Wend_of m c main_arg1 (by decide +kernel) (by decide +kernel) (by decide +kernel)

/-- **The frame**: the run ends, its arguments as launched and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c _ (mem_carried main_arg0 (by decide))).trans (Wend_arg0 m c), (h.1 c _ (mem_carried main_arg1 (by decide))).trans (Wend_arg1 m c)⟩, h.2⟩) (run m ρ)

/-- The run with the result named: the arguments as launched, and the result holding what `Wend` says. -/
theorem result : θ_run defs (onTc (τ := τ) (main (F := F))) ⟨m, fun _ => 0, ρ⟩ (fun r => ∀ c : Dev nD,
      r.2.mem ((c.tc : Thread nD τ).loc main_v14) = Wend m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h.1 c _ (mem_carried main_v14 (by decide)),
    (h.1 c _ (mem_carried main_arg0 (by decide))).trans (Wend_arg0 m c), (h.1 c _ (mem_carried main_arg1 (by decide))).trans (Wend_arg1 m c)⟩) (run m ρ)

end Cert.DropBlock

end
-- ==== Proof.Arrays.lean ====
/-
  What the two pallas_calls leave in their result arrays, read at an index: the product array block by block, the count after
  the last block, and the rescaled array.
-/
module

public import proofs.«01_k».proof.Proof.Whole
public import Idealize.ShloMosaic.Lib.Pointwise
public import Idealize.ShloMosaic.Lib.Pipeline.Value

@[expose] public section

set_option maxRecDepth 16384

noncomputable section

namespace Cert.DropBlock

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

/-- Block `b` as a grid point. -/
abbrev pt (b : Fin 32) : Fin cfg0.N := ⟨b.val, by rw [show cfg0.N = 32 from N_0]; exact b.isLt⟩

theorem index0_2 : ∀ t : Fin cfg0.N, win0_2.index t = ![t.val, 0, 0, 0] :=
  (by decide +kernel : ∀ t : Fin grid0.N, win0_2.index t = ![t.val, 0, 0, 0])
theorem index0_3 : ∀ t : Fin cfg0.N, win0_3.index t = ![t.val, 0, 0, 0] :=
  (by decide +kernel : ∀ t : Fin grid0.N, win0_3.index t = ![t.val, 0, 0, 0])
theorem index0_1 : ∀ t : Fin cfg0.N, win0_1.index t = ![0, 0, 0, 0] :=
  (by decide +kernel : ∀ t : Fin grid0.N, win0_1.index t = ![0, 0, 0, 0])
theorem index0_0 : ∀ t : Fin cfg0.N, win0_0.index t = ![0, 0] :=
  (by decide +kernel : ∀ t : Fin grid0.N, win0_0.index t = ![0, 0])
theorem index0_4 : ∀ t : Fin cfg0.N, win0_4.index t = ![0, 0] :=
  (by decide +kernel : ∀ t : Fin grid0.N, win0_4.index t = ![0, 0])

theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h' : win0_3.index t 0 = win0_3.index t' 0 := congrFun h 0
    rw [index0_3, index0_3] at h'; exact h'))

/-- The product array, at an index of block `b`. -/
theorem prod_arr (c : Dev nD) (b : Fin 32) (a : Fin 192) (i j : Fin 56) :
    (W2 m c (Proc.devRef .tc main_v10_0) : FVec F S32x192x56x56 .f32) (ix4 b a i j) = prodAt (V1 m) c (pt b) (ix4 0 a i j) := by
  have h0 := W2_arr m c 3
  have hb := (dat0 (V1 m) c).read_blk_arrAt_eq_flushed 3 disjoint0_3 cfg0.N (pt b) (pt b).isLt (flush0_3 _)
  have h1 := congrFun hb (ix4 0 a i j)
  rw [View.read_apply] at h1
  have h2 : (dat0 (V1 m) c).flushed 3 (pt b) (ix4 0 a i j) = prodAt (V1 m) c (pt b) (ix4 0 a i j) := by
    show (cfg0.win 3).cut (grid0.coords (pt b)) ((dat0 (V1 m) c).after 3 (pt b)) (ix4 0 a i j) = _
    rw [after0_3]; rfl
  rw [h2] at h1
  rw [← h1]
  refine (congrFun h0 _).trans ?_
  congr 1
  funext x
  apply Fin.ext
  have hi := index0_3 (pt b)
  fin_cases x
  · show b.val = win0_3.index (pt b) 0 * 1 + 1 * 0; rw [hi]; simp
  · show a.val = win0_3.index (pt b) 1 * 192 + 1 * a.val; rw [hi]; simp
  · show i.val = win0_3.index (pt b) 2 * 56 + 1 * i.val; rw [hi]; simp
  · show j.val = win0_3.index (pt b) 3 * 56 + 1 * j.val; rw [hi]; simp

/-- The blocks that the body is given: the rate, the valid positions, block `b` of the input. -/
theorem blk0_0_apply (c : Dev nD) (t : Fin cfg0.N) : (blk0 (V1 m) c 0 t : Vec F S1x1 .f32) o11 = (W1 m c main_v0 : Vec F S1x1 .f32) o11 := by
  unfold blk0
  rw [View.read_apply]
  exact congrArg (W1 m c main_v0 : Vec F S1x1 .f32) (one_one _)
theorem blk0_1_apply (c : Dev nD) (t : Fin cfg0.N) (i j : Fin 56) :
    (blk0 (V1 m) c 1 t : Vec F S1x1x56x56 .f32) (ix4 0 0 i j) = (W1 m c main_v9 : Vec F S1x1x56x56 .f32) (ix4 0 0 i j) := by
  unfold blk0
  rw [View.read_apply]
  refine congrArg (W1 m c main_v9 : Vec F S1x1x56x56 .f32) ?_
  funext x
  apply Fin.ext
  have hi := index0_1 t
  fin_cases x
  · show win0_1.index t 0 * 1 + 1 * 0 = 0; rw [hi]; simp
  · show win0_1.index t 1 * 1 + 1 * 0 = 0; rw [hi]; simp
  · show win0_1.index t 2 * 56 + 1 * i.val = i.val; rw [hi]; simp
  · show win0_1.index t 3 * 56 + 1 * j.val = j.val; rw [hi]; simp
theorem blk0_2_apply (c : Dev nD) (b : Fin 32) (a : Fin 192) (i j : Fin 56) :
    (blk0 (V1 m) c 2 (pt b) : Vec F S1x192x56x56 .f32) (ix4 0 a i j) = (m ((c : Thread nD τ).loc main_arg0) : Vec F S32x192x56x56 .f32) (ix4 b a i j) := by
  unfold blk0
  rw [View.read_apply]
  have hk : (V1 m c (Pipeline.arrRef spec0 2) : Vec F S32x192x56x56 .f32) = m ((c : Thread nD τ).loc main_arg0) :=
    W1_of m c main_arg0 (by decide)
  rw [show (V1 m c (Pipeline.arrRef spec0 2)) = _ from hk]
  refine congrArg (m ((c : Thread nD τ).loc main_arg0) : Vec F S32x192x56x56 .f32) ?_
  funext x
  apply Fin.ext
  have hi := index0_2 (pt b)
  fin_cases x
  · show win0_2.index (pt b) 0 * 1 + 1 * 0 = b.val; rw [hi]; simp
  · show win0_2.index (pt b) 1 * 192 + 1 * a.val = a.val; rw [hi]; simp
  · show win0_2.index (pt b) 2 * 56 + 1 * i.val = i.val; rw [hi]; simp
  · show win0_2.index (pt b) 3 * 56 + 1 * j.val = j.val; rw [hi]; simp

/-- The last grid point, and the count there. -/
abbrev lastPt : Fin cfg0.N := ⟨31, by rw [show cfg0.N = 32 from N_0]; decide⟩
abbrev total (c : Dev nD) : F .f32 := countTo (V1 m) c 31 lastPt.isLt

/-- The count's array after the first pallas_call: written back once, after the last block. -/
theorem count_arr (c : Dev nD) : (W2 m c (Proc.devRef .tc main_v10_1) : FVec F S1x1 .f32) = fun _ => total m c := by
  refine (W2_arr m c 4).trans ?_
  refine (dat0 (V1 m) c).arrAt_eq_of_cover 4 (fun _ => total m c) (fun t hf => ?_) fun i => ⟨lastPt, (flush0_4 _).mpr rfl, ?_⟩
  · have h3 : t = lastPt := Fin.ext (by
      have := (flush0_4 t).mp hf; have := lt_of_lt_of_eq t.isLt (show cfg0.N = 32 from N_0); dsimp only; omega)
    subst h3
    show (cfg0.win 4).cut (grid0.coords lastPt) ((dat0 (V1 m) c).after 4 lastPt) = _
    rw [after0_4]; rfl
  · have hi : i = ((cfg0.win 4).blk lastPt).view.emb o11 := (one_one _).trans (one_one _).symm
    rw [hi]
    exact View.emb_mem_set _ _

/-! ## The second pallas_call -/

/-- Block `b` as a grid point of the second pallas_call. -/
abbrev pt1 (b : Fin 32) : Fin cfg1.N := ⟨b.val, by rw [show cfg1.N = 32 from N_1]; exact b.isLt⟩

theorem index1_1 : ∀ t : Fin cfg1.N, win1_1.index t = ![t.val, 0, 0, 0] :=
  (by decide +kernel : ∀ t : Fin grid1.N, win1_1.index t = ![t.val, 0, 0, 0])
theorem index1_2 : ∀ t : Fin cfg1.N, win1_2.index t = ![t.val, 0, 0, 0] :=
  (by decide +kernel : ∀ t : Fin grid1.N, win1_2.index t = ![t.val, 0, 0, 0])

theorem disjoint1_2 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne (Fin.ext (by
    have h' : win1_2.index t 0 = win1_2.index t' 0 := congrFun h 0
    rw [index1_2, index1_2] at h'; exact h'))

/-- The rescaled array, at an index of block `b`. -/
theorem scaled_arr (c : Dev nD) (b : Fin 32) (a : Fin 192) (i j : Fin 56) :
    (W6 m c (Proc.devRef .tc main_case0b0_v17) : FVec F S32x192x56x56 .f32) (ix4 b a i j) = scaledAt (V5 m) c (pt1 b) (ix4 0 a i j) := by
  have h0 := W6_arr m c 2
  have hb := (dat1 (V5 m) c).read_blk_arrAt_eq_flushed 2 disjoint1_2 cfg1.N (pt1 b) (pt1 b).isLt (flush1_2 _)
  have h1 := congrFun hb (ix4 0 a i j)
  rw [View.read_apply] at h1
  have h2 : (dat1 (V5 m) c).flushed 2 (pt1 b) (ix4 0 a i j) = scaledAt (V5 m) c (pt1 b) (ix4 0 a i j) := by
    show (cfg1.win 2).cut (grid1.coords (pt1 b)) ((dat1 (V5 m) c).after 2 (pt1 b)) (ix4 0 a i j) = _
    rw [after1_2]; rfl
  rw [h2] at h1
  rw [← h1]
  refine (congrFun h0 _).trans ?_
  congr 1
  funext x
  apply Fin.ext
  have hi := index1_2 (pt1 b)
  fin_cases x
  · show b.val = win1_2.index (pt1 b) 0 * 1 + 1 * 0; rw [hi]; simp
  · show a.val = win1_2.index (pt1 b) 1 * 192 + 1 * a.val; rw [hi]; simp
  · show i.val = win1_2.index (pt1 b) 2 * 56 + 1 * i.val; rw [hi]; simp
  · show j.val = win1_2.index (pt1 b) 3 * 56 + 1 * j.val; rw [hi]; simp

/-- The blocks that its body is given: the scale, and block `b` of the product. -/
theorem blk1_0_apply (c : Dev nD) (t : Fin cfg1.N) :
    (blk1 (V5 m) c 0 t : Vec F S1x1 .f32) o11 = (W5 m c main_case0b0_v16 : Vec F S1x1 .f32) o11 := by
  unfold blk1
  rw [View.read_apply]
  exact congrArg (W5 m c main_case0b0_v16 : Vec F S1x1 .f32) (one_one _)
theorem blk1_1_apply (c : Dev nD) (b : Fin 32) (a : Fin 192) (i j : Fin 56) :
    (blk1 (V5 m) c 1 (pt1 b) : Vec F S1x192x56x56 .f32) (ix4 0 a i j)
      = (W2 m c (Proc.devRef .tc main_v10_0) : Vec F S32x192x56x56 .f32) (ix4 b a i j) := by
  unfold blk1
  rw [View.read_apply]
  have hk : (V5 m c (Pipeline.arrRef spec1 1) : Vec F S32x192x56x56 .f32) = W2 m c (Proc.devRef .tc main_v10_0) :=
    (W5_of m c main_v10_0 (by decide)).trans ((W4_of m c main_v10_0 (by decide)).trans (W3_of m c main_v10_0 (by decide)))
  rw [show (V5 m c (Pipeline.arrRef spec1 1)) = _ from hk]
  refine congrArg (W2 m c (Proc.devRef .tc main_v10_0) : Vec F S32x192x56x56 .f32) ?_
  funext x
  apply Fin.ext
  have hi := index1_1 (pt1 b)
  fin_cases x
  · show win1_1.index (pt1 b) 0 * 1 + 1 * 0 = b.val; rw [hi]; simp
  · show win1_1.index (pt1 b) 1 * 192 + 1 * a.val = a.val; rw [hi]; simp
  · show win1_1.index (pt1 b) 2 * 56 + 1 * i.val = i.val; rw [hi]; simp
  · show win1_1.index (pt1 b) 3 * 56 + 1 * j.val = j.val; rw [hi]; simp

/-! ## The host operations around them -/

/-- The rate, as the first pallas_call is given it. -/
theorem rate_host (c : Dev nD) : (W1 m c main_v0 : Vec F S1x1 .f32) = shapeCast S1x1 (m ((c : Thread nD τ).loc main_arg1) : Vec F S_ .f32) shapeCasts_S_S1x1 := by
  after_results
  rfl

/-- The valid positions, as the first pallas_call is given them. -/
theorem valid_host (c : Dev nD) : (W1 m c main_v9 : Vec F S1x1x56x56 .f32)
    = shapeCast S1x1x56x56 (uitofp .f32 (andi (cmpi .slt (iotaInDim S56x56 32 0) (broadcastInDim S56x56 ![] bcast_S_S56x56 (constantI S_ 32 52#32)))
        (cmpi .slt (iotaInDim S56x56 32 1) (broadcastInDim S56x56 ![] bcast_S_S56x56 (constantI S_ 32 52#32))))) shapeCasts_S56x56_S1x1x56x56 := by
  after_results
  rfl

/-- The word of the branch: whether the count is the number of positions. -/
theorem word_host (c : Dev nD) : word m c
    = extui 32 (cmpf .oeq (fun _ => total m c : FVec F S_ .f32) (constant S_ .f32 0x4B930000#32)) natLt_1_32 HostLoop.idx0 := by
  have h : (W4 m c main_v13 : IVec S_ 32)
      = extui 32 (cmpf .oeq (shapeCast S_ (W2 m c (Proc.devRef .tc main_v10_1) : FVec F S1x1 .f32) shapeCasts_S1x1_S_) (constant S_ .f32 0x4B930000#32)) natLt_1_32 := by
    after_results
    rfl
  refine (congrFun h HostLoop.idx0).trans ?_
  rw [count_arr]
  rfl

/-- The scale: the number of positions over the count. -/
theorem scale_host (c : Dev nD) : (W5 m c main_case0b0_v16 : Vec F S1x1 .f32)
    = Host.divf (broadcastInDim S1x1 ![] bcast_S_S1x1 (constant S_ .f32 0x4B930000#32)) (fun _ => total m c) := by
  have h : (W5 m c main_case0b0_v16 : Vec F S1x1 .f32)
      = Host.divf (broadcastInDim S1x1 ![] bcast_S_S1x1 (constant S_ .f32 0x4B930000#32)) (W4 m c (Proc.devRef .tc main_v10_1) : FVec F S1x1 .f32) := by
    after_results
    try rfl
  have hk : W4 m c (Proc.devRef .tc main_v10_1) = W2 m c (Proc.devRef .tc main_v10_1) :=
    (W4_of m c main_v10_1 (by decide)).trans (W3_of m c main_v10_1 (by decide))
  rw [h, hk, count_arr]
  rfl

/-- The result: rescaled unless the count is the number of positions. -/
theorem end_rescaled (c : Dev nD) (h : HostLoop.branch (word m c) 1 = 0) :
    (Wend m c (Proc.devRef .tc main_v14) : FVec F S32x192x56x56 .f32) = W6 m c (Proc.devRef .tc main_case0b0_v17) := by
  unfold Wend
  rw [if_pos h]
  after_results
  try rfl
theorem end_plain (c : Dev nD) (h : HostLoop.branch (word m c) 1 ≠ 0) :
    (Wend m c (Proc.devRef .tc main_v14) : FVec F S32x192x56x56 .f32) = W2 m c (Proc.devRef .tc main_v10_0) := by
  have hk : W4 m c (Proc.devRef .tc main_v10_0) = W2 m c (Proc.devRef .tc main_v10_0) :=
    (W4_of m c main_v10_0 (by decide)).trans (W3_of m c main_v10_0 (by decide))
  unfold Wend
  rw [if_neg h, ← hk]
  after_results
  try rfl

end Cert.DropBlock

end
-- ==== Proof.Dilate.lean ====
/-
  The mathematics of the dilation, without any program: a 0/1 array is the indicator of a predicate, the larger of two is the
  indicator of "or", and the largest of a value and its shifts by 1, then of that and its shift by 2, then of that and the first
  value shifted by 4, is the largest of the five shifts 0, 1, 2, 3, 4.
-/
module

public import Idealize.ShloMosaic.Lib.Claim
public import Idealize.ShloMosaic.PureOps.Ideal

@[expose] public section

noncomputable section

namespace Cert.DropBlock

/-- 1 where `P` holds and 0 elsewhere. -/
def ind (P : Prop) : EReal := open Classical in if P then 1 else 0

theorem ind_true {P : Prop} (h : P) : ind P = 1 := by unfold ind; exact if_pos h
theorem ind_false {P : Prop} (h : ¬ P) : ind P = 0 := by unfold ind; exact if_neg h
theorem ind_congr {P Q : Prop} (h : P ↔ Q) : ind P = ind Q := by rw [propext h]

theorem max_ind (P Q : Prop) : max (ind P) (ind Q) = ind (P ∨ Q) := by
  by_cases hP : P
  · rw [ind_true hP, ind_true (Or.inl hP)]
    by_cases hQ : Q
    · rw [ind_true hQ, max_self]
    · rw [ind_false hQ]; exact max_eq_left zero_le_one
  · by_cases hQ : Q
    · rw [ind_false hP, ind_true hQ, ind_true (Or.inr hQ)]; exact max_eq_right zero_le_one
    · rw [ind_false hP, ind_false hQ, ind_false (fun h => h.elim hP hQ), max_self]

/-- A predicate on rows (or columns) shifted by `d`; nothing comes in from outside. -/
def shifted (d : ℕ) (p : ℕ → Prop) (i : ℕ) : Prop := d ≤ i ∧ p (i - d)

/-- The five shifts by doubling. -/
theorem doubling (p : ℕ → Prop) (i : ℕ) :
    ((p i ∨ shifted 1 p i) ∨ shifted 2 (fun k => p k ∨ shifted 1 p k) i) ∨ shifted 4 p i ↔ ∃ d < 5, shifted d p i := by
  unfold shifted
  constructor
  · rintro (((h | ⟨h, h'⟩) | ⟨h, h' | ⟨h', h''⟩⟩) | ⟨h, h'⟩)
    · exact ⟨0, by omega, by omega, h⟩
    · exact ⟨1, by omega, h, h'⟩
    · exact ⟨2, by omega, h, h'⟩
    · exact ⟨3, by omega, by omega, by rwa [Nat.sub_sub] at h''⟩
    · exact ⟨4, by omega, h, h'⟩
  · rintro ⟨d, hd, h, h'⟩
    match d, hd with
    | 0, _ => exact Or.inl (Or.inl (Or.inl h'))
    | 1, _ => exact Or.inl (Or.inl (Or.inr ⟨h, h'⟩))
    | 2, _ => exact Or.inl (Or.inr ⟨h, Or.inl h'⟩)
    | 3, _ => exact Or.inl (Or.inr ⟨by omega, Or.inr ⟨by omega, by rwa [Nat.sub_sub]⟩⟩)
    | 4, _ => exact Or.inr ⟨h, h'⟩

/-- Row `i`, column `j` lies in the block of five by five of a seed at one of the positions that `q` marks. -/
def covered (q : ℕ → ℕ → Prop) (i j : ℕ) : Prop := ∃ d < 5, ∃ e < 5, d ≤ i ∧ e ≤ j ∧ q (i - d) (j - e)

/-- Down by doubling, then right by doubling, covers the blocks. -/
theorem doubling_twice (q : ℕ → ℕ → Prop) (i j : ℕ) :
    (∃ e < 5, shifted e (fun j' => ∃ d < 5, shifted d (fun i' => q i' j') i) j) ↔ covered q i j := by
  unfold shifted covered
  constructor
  · rintro ⟨e, he, h, d, hd, h', h''⟩; exact ⟨d, hd, e, he, h', h, h''⟩
  · rintro ⟨d, hd, e, he, h', h, h''⟩; exact ⟨e, he, h, d, hd, h', h''⟩

/-- The five by five shifts one after the other, rows outermost. -/
theorem covered_list (q : ℕ → ℕ → Prop) (i j : ℕ) :
    covered q i j ↔ ∃ s ∈ (List.range 25).map (fun n => (n / 5, n % 5)), s.1 ≤ i ∧ s.2 ≤ j ∧ q (i - s.1) (j - s.2) := by
  unfold covered
  constructor
  · rintro ⟨d, hd, e, he, h⟩
    exact ⟨(d, e), List.mem_map.mpr ⟨5 * d + e, List.mem_range.mpr (by omega), by congr 1 <;> omega⟩, h⟩
  · rintro ⟨s, hs, h⟩
    obtain ⟨n, hn, rfl⟩ := List.mem_map.mp hs
    have hn := List.mem_range.mp hn
    exact ⟨n / 5, by omega, n % 5, by omega, h⟩

end Cert.DropBlock

end
-- ==== Proof.KeepValue.lean ====
/-
  The kernel's block mask at the ideal instance: one minus the indicator of the five by five blocks of the seeds.
-/
module

public import proofs.«01_k».proof.Proof.Dilate
public import proofs.«01_k».proof.Proof.ApplyBody
public import Idealize.ShloMosaic.Lib.Pointwise

@[expose] public section

set_option maxRecDepth 16384

noncomputable section

namespace Cert.DropBlock

open Cert.KernelIdeal Cert.KernelIdeal.Gen
open Idealize.ShloMosaic

/-- The array `v` is the indicator of `q`. -/
def At (v : FVec Ideal S192x56x56 .f32) (q : Fin 192 → ℕ → ℕ → Prop) : Prop := ∀ (a : Fin 192) (i j : Fin 56), v (ix3 a i j) = ind (q a i.val j.val)

theorem At.max {v w : FVec Ideal S192x56x56 .f32} {q r : Fin 192 → ℕ → ℕ → Prop} (hv : At v q) (hw : At w r) :
    At (maximumf v w) (fun a i j => q a i j ∨ r a i j) := by
  intro a i j
  pointwise [hv a i j, hw a i j]
  exact max_ind _ _

/-- An entry that comes from outside is zero, and the others come from `d` before. -/
theorem ind_shifted (d : ℕ) (p : ℕ → Prop) (i : Fin 56) (x : (h : ¬ i.val < d) → EReal) (hx : ∀ h, x h = ind (p (i.val - d))) :
    (if h : i.val < d then (0 : EReal) else x h) = ind (shifted d p i.val) := by
  unfold shifted
  split
  · rename_i h; exact (ind_false fun h' => absurd h'.1 (by omega)).symm
  · rename_i h; rw [hx h]; exact ind_congr ⟨fun hp => ⟨by omega, hp⟩, fun hp => hp.2⟩

/-- Rows moved down by 1, zeros coming in. -/
def down1 (v : FVec Ideal S192x56x56 .f32) : FVec Ideal S192x56x56 .f32 :=
  concatenate S192x56x56 1 [⟨S192x1x56, broadcast S192x1x56 (Scalar.ofBits (F := Ideal) .f32 0x00000000#32)⟩,
    ⟨S192x55x56, extractStridedSlice S192x55x56 ![0, 0, 0] v slices_S192x56x56_o0_0_0_S192x55x56⟩] concatenates_S192x1x56_S192x55x56_S192x56x56_d1
theorem At.down1 {v : FVec Ideal S192x56x56 .f32} {q : Fin 192 → ℕ → ℕ → Prop} (hv : At v q) : At (down1 v) (fun a i j => shifted 1 (fun k => q a k j) i) := by
  intro a i j
  pointwise [DropBlock.down1]
  exact ind_shifted 1 _ i _ fun h => hv _ _ _

/-- Rows moved down by 2, zeros coming in. -/
def down2 (v : FVec Ideal S192x56x56 .f32) : FVec Ideal S192x56x56 .f32 :=
  concatenate S192x56x56 1 [⟨S192x2x56, broadcast S192x2x56 (Scalar.ofBits (F := Ideal) .f32 0x00000000#32)⟩,
    ⟨S192x54x56, extractStridedSlice S192x54x56 ![0, 0, 0] v slices_S192x56x56_o0_0_0_S192x54x56⟩] concatenates_S192x2x56_S192x54x56_S192x56x56_d1
theorem At.down2 {v : FVec Ideal S192x56x56 .f32} {q : Fin 192 → ℕ → ℕ → Prop} (hv : At v q) : At (down2 v) (fun a i j => shifted 2 (fun k => q a k j) i) := by
  intro a i j
  pointwise [DropBlock.down2]
  exact ind_shifted 2 _ i _ fun h => hv _ _ _

/-- Rows moved down by 4, zeros coming in. -/
def down4 (v : FVec Ideal S192x56x56 .f32) : FVec Ideal S192x56x56 .f32 :=
  concatenate S192x56x56 1 [⟨S192x4x56, broadcast S192x4x56 (Scalar.ofBits (F := Ideal) .f32 0x00000000#32)⟩,
    ⟨S192x52x56, extractStridedSlice S192x52x56 ![0, 0, 0] v slices_S192x56x56_o0_0_0_S192x52x56⟩] concatenates_S192x4x56_S192x52x56_S192x56x56_d1
theorem At.down4 {v : FVec Ideal S192x56x56 .f32} {q : Fin 192 → ℕ → ℕ → Prop} (hv : At v q) : At (down4 v) (fun a i j => shifted 4 (fun k => q a k j) i) := by
  intro a i j
  pointwise [DropBlock.down4]
  exact ind_shifted 4 _ i _ fun h => hv _ _ _

/-- Columns moved right by 1, zeros coming in. -/
def right1 (v : FVec Ideal S192x56x56 .f32) : FVec Ideal S192x56x56 .f32 :=
  concatenate S192x56x56 2 [⟨S192x56x1, broadcast S192x56x1 (Scalar.ofBits (F := Ideal) .f32 0x00000000#32)⟩,
    ⟨S192x56x55, extractStridedSlice S192x56x55 ![0, 0, 0] v slices_S192x56x56_o0_0_0_S192x56x55⟩] concatenates_S192x56x1_S192x56x55_S192x56x56_d2
theorem At.right1 {v : FVec Ideal S192x56x56 .f32} {q : Fin 192 → ℕ → ℕ → Prop} (hv : At v q) : At (right1 v) (fun a i j => shifted 1 (fun k => q a i k) j) := by
  intro a i j
  pointwise [DropBlock.right1]
  exact ind_shifted 1 _ j _ fun h => hv _ _ _

/-- Columns moved right by 2, zeros coming in. -/
def right2 (v : FVec Ideal S192x56x56 .f32) : FVec Ideal S192x56x56 .f32 :=
  concatenate S192x56x56 2 [⟨S192x56x2, broadcast S192x56x2 (Scalar.ofBits (F := Ideal) .f32 0x00000000#32)⟩,
    ⟨S192x56x54, extractStridedSlice S192x56x54 ![0, 0, 0] v slices_S192x56x56_o0_0_0_S192x56x54⟩] concatenates_S192x56x2_S192x56x54_S192x56x56_d2
theorem At.right2 {v : FVec Ideal S192x56x56 .f32} {q : Fin 192 → ℕ → ℕ → Prop} (hv : At v q) : At (right2 v) (fun a i j => shifted 2 (fun k => q a i k) j) := by
  intro a i j
  pointwise [DropBlock.right2]
  exact ind_shifted 2 _ j _ fun h => hv _ _ _

/-- Columns moved right by 4, zeros coming in. -/
def right4 (v : FVec Ideal S192x56x56 .f32) : FVec Ideal S192x56x56 .f32 :=
  concatenate S192x56x56 2 [⟨S192x56x4, broadcast S192x56x4 (Scalar.ofBits (F := Ideal) .f32 0x00000000#32)⟩,
    ⟨S192x56x52, extractStridedSlice S192x56x52 ![0, 0, 0] v slices_S192x56x56_o0_0_0_S192x56x52⟩] concatenates_S192x56x4_S192x56x52_S192x56x56_d2
theorem At.right4 {v : FVec Ideal S192x56x56 .f32} {q : Fin 192 → ℕ → ℕ → Prop} (hv : At v q) : At (right4 v) (fun a i j => shifted 4 (fun k => q a i k) j) := by
  intro a i j
  pointwise [DropBlock.right4]
  exact ind_shifted 4 _ j _ fun h => hv _ _ _

/-- The seeds: the random word below the level, and the position one where a whole block fits. -/
def level (g : EReal) : BitVec 32 := Scalar.fptoui 32 (Scalar.mulf (F := Ideal) (φ := .f32) (Scalar.minimumf (F := Ideal) (φ := .f32) g (Scalar.ofBits .f32 0x3F800000#32)) (Scalar.ofBits .f32 0x4F7FFFFF#32))
def seeds (g : EReal) (valid : Vec Ideal S1x1x56x56 .f32) (bits : IVec S192x56x56 32) : FVec Ideal S192x56x56 .f32 :=
  select (cmpi .ult bits (broadcast S192x56x56 (level g)))
    (broadcastTo S192x56x56 (shapeCast S1x56x56 (shapeCast S1x56x56 (shapeCast S56x56 valid shapeCasts_S1x1x56x56_S56x56) shapeCasts_S56x56_S1x56x56) shapeCasts_S1x56x56_S1x56x56) broadcasts_S1x56x56_S192x56x56)
    (broadcast S192x56x56 (Scalar.ofBits (F := Ideal) .f32 0x00000000#32))

/-- Five rows by doubling; five columns by doubling. -/
def rows (v : FVec Ideal S192x56x56 .f32) : FVec Ideal S192x56x56 .f32 :=
  maximumf (maximumf (maximumf v (down1 v)) (down2 (maximumf v (down1 v)))) (down4 v)
def cols (v : FVec Ideal S192x56x56 .f32) : FVec Ideal S192x56x56 .f32 :=
  maximumf (maximumf (maximumf v (right1 v)) (right2 (maximumf v (right1 v)))) (right4 v)

theorem At.rows {v : FVec Ideal S192x56x56 .f32} {q : Fin 192 → ℕ → ℕ → Prop} (hv : At v q) :
    At (rows v) (fun a i j => ∃ d < 5, shifted d (fun k => q a k j) i) := by
  intro a i j
  exact (((hv.max hv.down1).max (hv.max hv.down1).down2).max hv.down4 a i j).trans (ind_congr (doubling (fun k => q a k j.val) i.val))
theorem At.cols {v : FVec Ideal S192x56x56 .f32} {q : Fin 192 → ℕ → ℕ → Prop} (hv : At v q) :
    At (cols v) (fun a i j => ∃ d < 5, shifted d (fun k => q a i k) j) := by
  intro a i j
  exact (((hv.max hv.right1).max (hv.max hv.right1).right2).max hv.right4 a i j).trans (ind_congr (doubling (fun k => q a i.val k) j.val))

/-- The kernel's block mask is one minus the seeds spread over five rows and five columns. -/
theorem pay3_eq (g : EReal) (valid : Vec Ideal S1x1x56x56 .f32) (bits : IVec S192x56x56 32) :
    k0_pay3 (F := Ideal) g valid bits = subf (broadcast S192x56x56 (Scalar.ofBits (F := Ideal) .f32 0x3F800000#32)) (cols (rows (seeds g valid bits))) := rfl

/-- A seed at row `i`, column `j` of channel `a`: a random word below the level, at a position where a block fits. -/
def seed (g : EReal) (bits : IVec S192x56x56 32) (a : Fin 192) (i j : ℕ) : Prop :=
  ∃ (hi : i < 52) (hj : j < 52), bits (ix3 a ⟨i, by omega⟩ ⟨j, by omega⟩) < level g

theorem seeds_at (g : EReal) (valid : Vec Ideal S1x1x56x56 .f32) (bits : IVec S192x56x56 32)
    (hvalid : ∀ i j : Fin 56, valid (ix4 0 0 i j) = ind (i.val < 52 ∧ j.val < 52)) :
    At (seeds g valid bits) (seed g bits) := by
  intro a i j
  unfold seeds
  pointwise [hvalid]
  have hc : IntOp.cmpi CmpIPredicate.ult (bits (ix3 a i j)) (level g) = BitVec.ofBool (decide (bits (ix3 a i j) < level g)) := rfl
  rw [hc, WordCmp.select_ofBool]
  unfold seed
  by_cases hp : bits (ix3 a i j) < level g
  · rw [decide_eq_true hp, if_pos rfl]
    exact ind_congr ⟨fun h => ⟨h.1, h.2, hp⟩, fun ⟨hi, hj, _⟩ => ⟨hi, hj⟩⟩
  · rw [decide_eq_false hp, if_neg Bool.false_ne_true]
    exact (ind_false fun ⟨hi, hj, h⟩ => hp h).symm

/-- **The kernel's block mask**: one minus the indicator of the blocks of the seeds. -/
theorem pay3_apply (g : EReal) (valid : Vec Ideal S1x1x56x56 .f32) (bits : IVec S192x56x56 32)
    (hvalid : ∀ i j : Fin 56, valid (ix4 0 0 i j) = ind (i.val < 52 ∧ j.val < 52)) (a : Fin 192) (i j : Fin 56) :
    k0_pay3 (F := Ideal) g valid bits (ix3 a i j) = 1 - ind (covered (seed g bits a) i.val j.val) := by
  rw [pay3_eq]
  have h := (seeds_at g valid bits hvalid).rows.cols a i j
  pointwise [h]
  rw [ind_congr (doubling_twice (seed g bits a) i.val j.val)]

end Cert.DropBlock

end
-- ==== Proof.KernelValue.lean ====
/-
  What the kernel computes over the extended reals: the kept entries of the input, rescaled by the number of positions over the
  number of kept positions.
-/
module

public import proofs.«01_k».proof.Proof.Arrays
public import proofs.«01_k».proof.Proof.KeepValue

@[expose] public section

set_option maxRecDepth 16384

noncomputable section

namespace Cert.DropBlock

open Cert.KernelIdeal Cert.KernelIdeal.Gen
open Idealize.ShloMosaic Idealize.ShloMosaic.TcCoe

/-! ## The result in plain words -/

/-- One where entry `(a, i, j)` of block `b` is kept, and zero where a dropped block covers it. -/
def kept (g : EReal) (b : ℕ) (a : Fin 192) (i j : Fin 56) : EReal := 1 - ind (covered (seed g (drawn b) a) i.val j.val)

/-- How many entries of block `b` are kept; how many are kept in all. -/
def blockCount (g : EReal) (b : ℕ) : EReal := ∑ a : Fin 192, ∑ i : Fin 56, ∑ j : Fin 56, kept g b a i j
def count (g : EReal) : EReal := ∑ b : Fin 32, blockCount g b.val

/-- The number of entries, as the programs' constant. -/
def entries : EReal := Ideal.ofBits .f32 0x4B930000#32

/-- The result. -/
def dropped (g : EReal) (x : FVec Ideal S32x192x56x56 .f32) (b : Fin 32) (a : Fin 192) (i j : Fin 56) : EReal :=
  kept g b.val a i j * x (ix4 b a i j) * Ideal.div entries (count g)

theorem entries_val : entries = ((19267584 : ℝ) : EReal) := by
  unfold entries
  simp [Ideal.ofBits, Ideal.ieee, -EReal.coe_mul]; norm_num

/-- If every entry is kept then the scale is one. -/
theorem scale_one : Ideal.div entries entries = 1 := by
  rw [entries_val, Ideal.div_coe (by norm_num), ← EReal.coe_mul]
  norm_num

/-! ## The kernel's operations, read at an index -/

theorem pay1_apply (k : FVec Ideal S192x56x56 .f32) (x : Vec Ideal S1x192x56x56 .f32) (a : Fin 192) (i j : Fin 56) :
    k0_pay1 (F := Ideal) k x (ix4 0 a i j) = x (ix4 0 a i j) * k (ix3 a i j) := by
  unfold k0_pay1
  pointwise

theorem kpay1_apply (y : Vec Ideal S1x192x56x56 .f32) (s : EReal) (a : Fin 192) (i j : Fin 56) :
    k1_pay1 (F := Ideal) y s (ix4 0 a i j) = y (ix4 0 a i j) * s := by
  unfold k1_pay1
  pointwise

theorem pay2_eq (k : FVec Ideal S192x56x56 .f32) (s : EReal) :
    k0_pay2 (F := Ideal) k s = s + ∑ a : Fin 192, ∑ i : Fin 56, ∑ j : Fin 56, k (ix3 a i j) := by
  unfold k0_pay2
  pointwise
  rw [Ideal.reduceAdd_total _ (fun b => by fin_cases b; rfl), sum_idx4]
  congr 1
  rw [Fin.sum_univ_one]
  refine Finset.sum_congr rfl fun a _ => Finset.sum_congr rfl fun i _ => Finset.sum_congr rfl fun j _ => ?_
  pointwise

variable (m : (ℓ : Loc nD τ sig) → Buf (Elt Ideal) ℓ)

/-- The rate, and the input. -/
def rate (c : Dev nD) : EReal := (m ((c : Thread nD τ).loc main_arg1) : FVec Ideal S_ .f32) ix0
def input (c : Dev nD) : FVec Ideal S32x192x56x56 .f32 := m ((c : Thread nD τ).loc main_arg0)

theorem rate_eq (c : Dev nD) : (W1 m c main_v0 : Vec Ideal S1x1 .f32) o11 = rate m c := by
  rw [rate_host]
  pointwise
  rfl

theorem uitofp_ofBool (P : Prop) [Decidable P] : FloatOps.uitofp (F := Ideal) .f32 (BitVec.ofBool (decide P)) = ind P := by
  by_cases h : P
  · rw [decide_eq_true h, ind_true h]
    show (((BitVec.ofBool true).toNat : ℝ) : EReal) = 1
    rw [show (BitVec.ofBool true).toNat = 1 from rfl]; norm_num
  · rw [decide_eq_false h, ind_false h]
    show (((BitVec.ofBool false).toNat : ℝ) : EReal) = 0
    norm_num

theorem valid_bits : ∀ i j : Fin 56, IntOp.andi (IntOp.cmpi CmpIPredicate.slt (BitVec.ofNat 32 i.val) 52#32) (IntOp.cmpi CmpIPredicate.slt (BitVec.ofNat 32 j.val) 52#32)
    = BitVec.ofBool (decide (i.val < 52 ∧ j.val < 52)) := by decide +kernel

theorem valid_eq (c : Dev nD) (i j : Fin 56) : (W1 m c main_v9 : Vec Ideal S1x1x56x56 .f32) (ix4 0 0 i j) = ind (i.val < 52 ∧ j.val < 52) := by
  rw [valid_host]
  pointwise
  rw [valid_bits]
  exact uitofp_ofBool _

/-- The mask of block `b`. -/
theorem keepAt_apply (c : Dev nD) (t : Fin cfg0.N) (a : Fin 192) (i j : Fin 56) :
    keepAt (V1 m) c t (ix3 a i j) = kept (rate m c) t.val a i j := by
  unfold keepAt keep
  rw [blk0_0_apply, rate_eq]
  exact pay3_apply _ _ _ (fun i j => (blk0_1_apply m c t i j).trans (valid_eq m c i j)) a i j

/-- The product. -/
theorem prod_apply (c : Dev nD) (b : Fin 32) (a : Fin 192) (i j : Fin 56) :
    (W2 m c (Proc.devRef .tc main_v10_0) : FVec Ideal S32x192x56x56 .f32) (ix4 b a i j) = input m c (ix4 b a i j) * kept (rate m c) b.val a i j := by
  rw [prod_arr]
  unfold prodAt
  rw [pay1_apply, keepAt_apply, blk0_2_apply]
  rfl

/-- The running count. -/
theorem countTo_eq (c : Dev nD) : ∀ (n : ℕ) (h : n < cfg0.N), countTo (V1 m) c n h = ∑ b : Fin (n + 1), blockCount (rate m c) b.val
  | 0, h => by
    unfold countTo
    rw [pay2_eq, Fin.sum_univ_one]
    simp only [keepAt_apply]
    show Ideal.ofBits .f32 0x00000000#32 + blockCount (rate m c) 0 = _
    rw [Ideal.ofBits_zero_f32, zero_add]
    rfl
  | n + 1, h => by
    unfold countTo
    rw [pay2_eq, countTo_eq c n, Fin.sum_univ_castSucc (n := n + 1)]
    simp only [keepAt_apply]
    rfl

theorem total_eq (c : Dev nD) : total m c = count (rate m c) := countTo_eq m c 31 lastPt.isLt

theorem scale_eq (c : Dev nD) : (W5 m c main_case0b0_v16 : Vec Ideal S1x1 .f32) o11 = Ideal.div entries (count (rate m c)) := by
  rw [scale_host, ← total_eq]
  pointwise
  rfl

theorem branch_bit : HostLoop.branch (BitVec.setWidth 32 (BitVec.ofBool true)) 1 = 1 ∧ HostLoop.branch (BitVec.setWidth 32 (BitVec.ofBool false)) 1 = 0 := by decide

theorem branch_eq (c : Dev nD) : HostLoop.branch (word m c) 1 = 0 ↔ count (rate m c) ≠ entries := by
  rw [word_host, total_eq]
  pointwise
  unfold entries
  by_cases h : count (rate m c) = Ideal.ofBits .f32 0x4B930000#32
  · rw [decide_eq_true h, branch_bit.1]; simp [h]
  · rw [decide_eq_false h, branch_bit.2]; simp [h]

/-- **The kernel's result.** -/
theorem result_apply (c : Dev nD) (b : Fin 32) (a : Fin 192) (i j : Fin 56) :
    (Wend m c (Proc.devRef .tc main_v14) : FVec Ideal S32x192x56x56 .f32) (ix4 b a i j) = dropped (rate m c) (input m c) b a i j := by
  unfold dropped
  by_cases h : count (rate m c) = entries
  · rw [end_plain m c fun h' => (branch_eq m c).mp h' h, prod_apply, h, scale_one, mul_one, mul_comm]
  · rw [end_rescaled m c ((branch_eq m c).mpr h), scaled_arr]
    unfold scaledAt
    rw [kpay1_apply, blk1_1_apply, blk1_0_apply, scale_eq, prod_apply, mul_comm (input m c _)]

end Cert.DropBlock

end
-- ==== Proof.RefDraw.lean ====
/-
  The reference's pallas_call: its loop over the batch leaves, in block `b`, the indicator of the words drawn under the seed `b` that lie
  below the level of the rate.
-/
module

public import proofs.«01_k».proof.Proof.Gen.ReferenceIdeal.Frame
public import proofs.«01_k».proof.Proof.KernelValue
public import Idealize.ShloMosaic.Lib.Pipeline.ValueKit

@[expose] public section

set_option maxRecDepth 16384

noncomputable section

namespace Cert.DropBlock.Ref

open Cert.ReferenceIdeal Cert.ReferenceIdeal.Gen
open Idealize.ShloMosaic Idealize.ShloMosaic.TcCoe Idealize.ShloMosaic.Tactic

/-- What the loop leaves. -/
def sample (g : EReal) : FVec Ideal S32x192x56x56 .f32 :=
  fun y => ind (drawn (y 0).val (ix3 (y 1) (y 2) (y 3)) < level g)

theorem off1_eq : ∀ k : Fin k0_t1_loop.trips, k0_off1 k = ![k.val, 0, 0, 0] := by decide +kernel

theorem seed_word : ∀ k : Fin k0_t1_loop.trips, Scf.iv 0#32 1#32 k.val = BitVec.ofNat 32 k.val := by decide +kernel

theorem pay1_apply (g : EReal) (bits : IVec S192x56x56 32) (a : Fin 192) (i j : Fin 56) :
    k0_pay1 (F := Ideal) g bits (ix4 0 a i j) = ind (bits (ix3 a i j) < level g) := by
  have he : k0_pay1 (F := Ideal) g bits = shapeCast S1x192x56x56 (select (cmpi .ult bits (broadcast S192x56x56 (level g)))
      (broadcast S192x56x56 (Scalar.ofBits (F := Ideal) .f32 0x3F800000#32)) (broadcast S192x56x56 (Scalar.ofBits (F := Ideal) .f32 0x00000000#32)))
      shapeCasts_S192x56x56_S1x192x56x56 := rfl
  rw [he]
  pointwise
  have hc : IntOp.cmpi CmpIPredicate.ult (bits (ix3 a i j)) (level g) = BitVec.ofBool (decide (bits (ix3 a i j) < level g)) := rfl
  rw [hc, WordCmp.select_ofBool]
  by_cases hp : bits (ix3 a i j) < level g
  · rw [decide_eq_true hp, if_pos rfl, ind_true hp]
  · rw [decide_eq_false hp, if_neg Bool.false_ne_true, ind_false hp]

/-- One trip stores one block, drawn under the trip's number. -/
theorem trip_pieces {F : FTy → Type} [FloatOps F] (𝒱 : Variants) (c : Dev nD) (bd : Option 𝒱.V) (arg0 : Memref sig .tc .smem S1x1 .f32) (harg0 : arg0.IsWhole)
    (arg1 : Memref sig .tc .vmem S32x192x56x56 .f32) (harg1 : arg1.IsWhole) (v0 : Elt F .f32) (k : Fin k0_t1_loop.trips) :
    tripL_k0_t1 (F := F) 𝒱 c bd arg0 harg0 arg1 harg1 v0 k
      = [⟨Rect.unit (s := S32x192x56x56) (k0_off1 k) S1x192x56x56.size (k0_off1_inb k),
          k0_pay1 v0 (prngBits S192x56x56 rank2_S192x56x56 fun j => prngStream [(Scf.iv 0#32 1#32 k.val).toNat.toUInt32] (0 + j.val))⟩] := by
  unfold tripL_k0_t1 trip_k0_t1
  sl_unfold_words
  rfl

/-- Each trip's piece agrees with `sample`. -/
theorem trip_agrees (𝒱 : Variants) (c : Dev nD) (bd : Option 𝒱.V) (arg0 : Memref sig .tc .smem S1x1 .f32) (harg0 : arg0.IsWhole)
    (arg1 : Memref sig .tc .vmem S32x192x56x56 .f32) (harg1 : arg1.IsWhole) (g : EReal) (k : Fin k0_t1_loop.trips) :
    ∀ p ∈ tripL_k0_t1 (F := Ideal) 𝒱 c bd arg0 harg0 arg1 harg1 g k, ∀ x : p.1.shape.Idx, p.2 x = sample g (p.1.emb x) := by
  rw [trip_pieces, seed_word]
  intro p hp x
  obtain rfl := List.mem_singleton.mp hp
  obtain ⟨z, a, i, j, rfl⟩ : ∃ (z : Fin 1) (a : Fin 192) (i j : Fin 56), x = ix4 z a i j := ⟨x 0, x 1, x 2, x 3, eq_ix4 x⟩
  obtain rfl : z = 0 := Subsingleton.elim _ _
  refine (pay1_apply g _ a i j).trans ?_
  have h0 : (Rect.unit (s := S32x192x56x56) (k0_off1 k) S1x192x56x56.size (k0_off1_inb k)).emb (ix4 0 a i j)
      = ix4 (⟨k.val, k.isLt⟩ : Fin 32) a i j := by
    funext ax
    apply Fin.ext
    refine (congrArg (fun o : Fin 4 → ℕ => o ax + 1 * (ix4 (0 : Fin 1) a i j ax).val) (off1_eq k)).trans ?_
    fin_cases ax
    · show k.val + 1 * 0 = k.val; omega
    · show 0 + 1 * a.val = a.val; omega
    · show 0 + 1 * i.val = i.val; omega
    · show 0 + 1 * j.val = j.val; omega
  exact (congrArg (sample g) h0).symm

theorem pieces_agree (𝒱 : Variants) (c : Dev nD) (bd : Option 𝒱.V) (arg0 : Memref sig .tc .smem S1x1 .f32) (harg0 : arg0.IsWhole)
    (arg1 : Memref sig .tc .vmem S32x192x56x56 .f32) (harg1 : arg1.IsWhole) (g : EReal) :
    ∀ n ≤ k0_t1_loop.trips, ∀ p ∈ pb_k0_t1 (F := Ideal) 𝒱 c bd arg0 harg0 arg1 harg1 g n, ∀ x : p.1.shape.Idx, p.2 x = sample g (p.1.emb x)
  | 0, _, p, hp, x => absurd hp List.not_mem_nil
  | n + 1, hn, p, hp, x => by
    rw [pb_k0_t1_succ (F := Ideal) 𝒱 c bd arg0 harg0 arg1 harg1 g ⟨n, hn⟩] at hp
    rcases List.mem_append.mp hp with h | h
    · exact trip_agrees 𝒱 c bd arg0 harg0 arg1 harg1 g ⟨n, hn⟩ p h x
    · exact pieces_agree 𝒱 c bd arg0 harg0 arg1 harg1 g n (Nat.le_of_succ_le hn) p h x

/-- The loop's output, given the rate. -/
theorem out_eq (c : Dev nD) (arg0 : Memref sig .tc .smem S1x1 .f32) (harg0 : arg0.IsWhole)
    (arg1 : Memref sig .tc .vmem S32x192x56x56 .f32) (harg1 : arg1.IsWhole) (x0 : Vec Ideal S1x1 .f32) (r : PrngReg) :
    out0_A_1 (F := Ideal) c arg0 harg0 arg1 harg1 x0 r = sample (x0 o11) := by
  funext y
  unfold out0_A_1
  refine View.read_writes_apply_of_pieces _ _ _ (kernelRun0_A c arg0 harg0 arg1 harg1 x0 r).1 ?_ y (cover0_A_1 c arg0 harg0 arg1 harg1 x0 r y)
  have hv : ∀ z, x0 z = x0 o11 := fun z => congrArg x0 (one_one z)
  have hp : (kernelRun0_A (F := Ideal) c arg0 harg0 arg1 harg1 x0 r).1
      = pb_k0_t1 (F := Ideal) Variants.none c none arg0 harg0 arg1 harg1 (x0 o11) k0_t1_loop.trips := by
    unfold kernelRun0_A
    sl_unfold_words
    simp only [View.readAt_eq_ld, harg0.read_unread, List.append_nil]
    exact congrArg (fun v => pb_k0_t1 (F := Ideal) Variants.none c none arg0 harg0 arg1 harg1 v k0_t1_loop.trips) (hv _)
  rw [hp]
  exact pieces_agree Variants.none c none arg0 harg0 arg1 harg1 (x0 o11) _ le_rfl

variable (m : (ℓ : Loc nD τ sig) → Buf (Elt Ideal) ℓ)

/-- The rate's block is the rate. -/
theorem rate_block (c : Dev nD) (t : Fin cfg0.N) : (iblk (F := Ideal) m c 0 t : Vec Ideal S1x1 .f32) o11 = (m ((c.tc : Thread nD τ).loc main_arg1) : FVec Ideal S_ .f32) ix0 := by
  unfold iblk
  have h : (V m c main_v0 : FVec Ideal S1x1 .f32) = shapeCast S1x1 (m ((c.tc : Thread nD τ).loc main_arg1) : FVec Ideal S_ .f32) shapeCasts_S_S1x1 := by
    sl_kernel_rfl
  rw [View.read_apply]
  refine (congrArg (V m c main_v0 : FVec Ideal S1x1 .f32) (one_one _)).trans ?_
  rw [h]
  pointwise

/-- The array the pallas_call leaves. -/
theorem draws_arr (c : Dev nD) : ((dats m 0 c).arrAt 1 cfg0.N : FVec Ideal S32x192x56x56 .f32) = sample ((m ((c.tc : Thread nD τ).loc main_arg1) : FVec Ideal S_ .f32) ix0) := by
  refine (dats m 0 c).arrAt_eq_of_covers 1 _ (by decide +kernel) fun t hf y => ?_
  blk_simp
  rw [Cert.ReferenceIdeal.Gen.after0_1]
  unfold outsAt0
  rw [out_eq, rate_block]
  refine congrArg (sample _) (funext fun ax => Fin.ext ?_)
  have hi : ∀ t : Fin cfg0.N, Cert.ReferenceIdeal.win0_1.index t = ![0, 0, 0, 0] := by decide +kernel
  have hi := hi t
  fin_cases ax
  · show (y 0).val = Cert.ReferenceIdeal.win0_1.index t 0 * 32 + 1 * (y 0).val; rw [hi]; simp
  · show (y 1).val = Cert.ReferenceIdeal.win0_1.index t 1 * 192 + 1 * (y 1).val; rw [hi]; simp
  · show (y 2).val = Cert.ReferenceIdeal.win0_1.index t 2 * 56 + 1 * (y 2).val; rw [hi]; simp
  · show (y 3).val = Cert.ReferenceIdeal.win0_1.index t 3 * 56 + 1 * (y 3).val; rw [hi]; simp

end Cert.DropBlock.Ref

end
-- ==== Proof.RefTail.lean ====
/-
  The reference's host operations after its draws: the shifted copies of the seeds, their maximum, the mask, its count and
  the rescaled product, as one expression in the array of draws and the input.
-/
module

public import proofs.«01_k».proof.Proof.Gen.ReferenceIdeal.Frame
public import Idealize.ShloMosaic.Lib.Tactic

@[expose] public section

set_option maxRecDepth 16384

noncomputable section

namespace Cert.DropBlock.Ref

open Cert.ReferenceIdeal Cert.ReferenceIdeal.Gen
open Idealize.ShloMosaic Idealize.ShloMosaic.TcCoe Idealize.ShloMosaic.Tactic

variable {F : FTy → Type} [FloatOps F]

theorem pads_block : ∀ n : Fin 25, S32x192x52x52.Pads ![0, 0, n.val / 5, n.val % 5] ![0, 0, 4 - n.val / 5, 4 - n.val % 5] ![0, 0, 0, 0] S32x192x56x56 := by decide

/-- The seeds moved down by `n / 5` and right by `n % 5`, zeros around them. -/
def block (mask : FVec F S32x192x52x52 .f32) (n : Fin 25) : FVec F S32x192x56x56 .f32 :=
  pad S32x192x56x56 ![0, 0, n.val / 5, n.val % 5] ![0, 0, 4 - n.val / 5, 4 - n.val % 5] ![0, 0, 0, 0] mask
    (sitofp .f32 (constantI S_ 32 0#32) : FVec F S_ .f32) (pads_block n) h_S_

/-- The maximum of the seeds in the middle and of the twenty-five moved copies, and one minus it. -/
def paddedMask (draws : FVec F S32x192x56x56 .f32) : FVec F S32x192x56x56 .f32 :=
  (List.finRange 25).foldl (fun acc n => maximumf acc (block (extractStridedSlice S32x192x52x52 ![0, 0, 0, 0] draws slices_S32x192x56x56_S32x192x52x52_0_0_0_0) n))
    (maximumf (broadcastInDim S32x192x56x56 ![] bcast_S_S32x192x56x56 (constant S_ .f32 0x00000000#32))
      (block (extractStridedSlice S32x192x52x52 ![0, 0, 0, 0] draws slices_S32x192x56x56_S32x192x52x52_0_0_0_0) 12))
def blockMask (p : FVec F S32x192x56x56 .f32) : FVec F S32x192x56x56 .f32 :=
  subf (broadcastInDim S32x192x56x56 ![] bcast_S_S32x192x56x56 (constant S_ .f32 0x3F800000#32)) p

/-- The rescaled product. -/
def rescaled (k x : FVec F S32x192x56x56 .f32) : FVec F S32x192x56x56 .f32 :=
  mulf (mulf k x) (broadcastInDim S32x192x56x56 ![] bcast_S_S32x192x56x56
    (Host.divf (constant S_ .f32 0x4B930000#32) (Host.reduceAdd k (constant S_ .f32 0x00000000#32) reducesTo_S32x192x56x56_S_d0_1_2_3 h_S_)))

abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52]

theorem tail (V : Valuation τ sig (Elt F)) :
    StableHlo.after (tailOps (F := F)).flatten V (Proc.devRef .tc main_v62)
      = rescaled (blockMask (paddedMask (V (Proc.devRef .tc main_v1)))) (V (Proc.devRef .tc main_arg0)) := by
  sl_kernel_rfl

end Cert.DropBlock.Ref

end
-- ==== Proof.RefMask.lean ====
/-
  The reference's host operations, read at an index over the extended reals.
-/
module

public import proofs.«01_k».proof.Proof.RefTail
public import proofs.«01_k».proof.Proof.KernelValue
public import Idealize.ShloMosaic.Lib.KernelVsHost
public import Idealize.ShloMosaic.Lib.IdealHost

@[expose] public section

set_option maxRecDepth 16384

noncomputable section

namespace Cert.DropBlock.Ref

open Cert.ReferenceIdeal Cert.ReferenceIdeal.Gen
open Idealize.ShloMosaic Idealize.ShloMosaic.TcCoe

/-- A block's value: the seed that many rows above and columns to the left. -/
theorem block_apply (g : EReal) (bits : IVec S192x56x56 32) (mask : FVec Ideal S32x192x52x52 .f32) (b : Fin 32) (a : Fin 192)
    (h : ∀ (i j : ℕ) (hi : i < 52) (hj : j < 52), mask (ix4 b a ⟨i, hi⟩ ⟨j, hj⟩) = ind (bits (ix3 a ⟨i, by omega⟩ ⟨j, by omega⟩) < level g))
    (n : Fin 25) (i j : Fin 56) :
    block mask n (ix4 b a i j) = ind (n.val / 5 ≤ i.val ∧ n.val % 5 ≤ j.val ∧ seed g bits a (i.val - n.val / 5) (j.val - n.val % 5)) := by
  have hz : ∀ k : S_.Idx, (sitofp .f32 (constantI S_ 32 0#32) : FVec Ideal S_ .f32) k = 0 := fun k => by
    show ((BitVec.toInt 0#32 : ℝ) : EReal) = 0
    simp
  unfold block
  by_cases hr : n.val / 5 ≤ i.val ∧ i.val - n.val / 5 < 52
  · by_cases hc : n.val % 5 ≤ j.val ∧ j.val - n.val % 5 < 52
    · rw [pad_apply_of_inside _ _ _ _ _ _ _ _ (ix4 b a ⟨i.val - n.val / 5, hr.2⟩ ⟨j.val - n.val % 5, hc.2⟩), h]
      · refine ind_congr ⟨fun hs => ⟨hr.1, hc.1, hr.2, hc.2, hs⟩, fun hs => ?_⟩
        obtain ⟨_, _, _, _, hs⟩ := hs; exact hs
      · intro ax
        fin_cases ax
        · show b.val = 0 + b.val * 1; omega
        · show a.val = 0 + a.val * 1; omega
        · show i.val = n.val / 5 + (i.val - n.val / 5) * 1; omega
        · show j.val = n.val % 5 + (j.val - n.val % 5) * 1; omega
    · rw [pad_apply_of_not_inside _ _ _ _ _ _ _ _ (3 : Fin 4), hz, ind_false]
      · rintro ⟨_, h2, _, h4, _⟩; exact hc ⟨h2, h4⟩
      · show ¬ (n.val % 5 ≤ j.val ∧ (j.val - n.val % 5) % 1 = 0 ∧ (j.val - n.val % 5) / 1 < 52)
        omega
  · rw [pad_apply_of_not_inside _ _ _ _ _ _ _ _ (2 : Fin 4), hz, ind_false]
    · rintro ⟨h1, _, h3, _, _⟩; exact hr ⟨h1, h3⟩
    · show ¬ (n.val / 5 ≤ i.val ∧ (i.val - n.val / 5) % 1 = 0 ∧ (i.val - n.val / 5) / 1 < 52)
      omega

/-- A running maximum of indicators tells whether one of them holds. -/
theorem fold_max {α : Type} (f : α → FVec Ideal S32x192x56x56 .f32) (P : α → Prop) (y : S32x192x56x56.Idx) (hf : ∀ n, f n y = ind (P n)) :
    ∀ (l : List α) (acc : FVec Ideal S32x192x56x56 .f32) (Q : Prop), acc y = ind Q →
      l.foldl (fun acc n => maximumf acc (f n)) acc y = ind (Q ∨ ∃ n ∈ l, P n)
  | [], acc, Q, h => by rw [List.foldl_nil, h]; exact ind_congr (by simp)
  | n :: l, acc, Q, h => by
    rw [List.foldl_cons, fold_max f P y hf l _ (Q ∨ P n)]
    · exact ind_congr (by simp [or_assoc])
    · show max (acc y) (f n y) = _
      rw [h, hf, max_ind]

/-- The maximum of the moved seeds: one where a block covers the position. -/
theorem paddedMask_apply (g : EReal) (draws : FVec Ideal S32x192x56x56 .f32) (bits : IVec S192x56x56 32) (b : Fin 32) (a : Fin 192)
    (h : ∀ i j : Fin 56, draws (ix4 b a i j) = ind (bits (ix3 a i j) < level g)) (i j : Fin 56) :
    paddedMask draws (ix4 b a i j) = ind (covered (seed g bits a) i.val j.val) := by
  have hm : ∀ (i j : ℕ) (hi : i < 52) (hj : j < 52),
      extractStridedSlice S32x192x52x52 ![0, 0, 0, 0] draws slices_S32x192x56x56_S32x192x52x52_0_0_0_0 (ix4 b a ⟨i, hi⟩ ⟨j, hj⟩)
        = ind (bits (ix3 a ⟨i, by omega⟩ ⟨j, by omega⟩) < level g) := fun i j hi hj => by rw [← h]; pointwise
  have hb := fun n => block_apply g bits _ b a hm n i j
  unfold paddedMask
  generalize extractStridedSlice S32x192x52x52 ![0, 0, 0, 0] draws slices_S32x192x56x56_S32x192x52x52_0_0_0_0 = mask at hb
  rw [fold_max _ _ _ hb _ _ (False ∨ (2 ≤ i.val ∧ 2 ≤ j.val ∧ seed g bits a (i.val - 2) (j.val - 2))) ?_]
  · refine ind_congr ?_
    rw [covered_list, false_or]
    constructor
    · rintro (hn | ⟨n, _, hn⟩)
      · exact ⟨_, List.mem_map.mpr ⟨12, List.mem_range.mpr (by decide), rfl⟩, hn⟩
      · exact ⟨_, List.mem_map.mpr ⟨n.val, List.mem_range.mpr n.isLt, rfl⟩, hn⟩
    · rintro ⟨s, hs, hn⟩
      obtain ⟨n, hl, rfl⟩ := List.mem_map.mp hs
      exact Or.inr ⟨⟨n, List.mem_range.mp hl⟩, List.mem_finRange _, hn⟩
  · have h12 : block mask 12 (ix4 b a i j) = ind (2 ≤ i.val ∧ 2 ≤ j.val ∧ seed g bits a (i.val - 2) (j.val - 2)) := hb 12
    rw [← max_ind, ← h12, ind_false not_false]
    pointwise

theorem blockMask_apply (g : EReal) (draws : FVec Ideal S32x192x56x56 .f32)
    (h : ∀ b a i j, draws (ix4 b a i j) = ind (drawn b.val (ix3 a i j) < level g)) (b : Fin 32) (a : Fin 192) (i j : Fin 56) :
    blockMask (paddedMask draws) (ix4 b a i j) = kept g b.val a i j := by
  have hp := paddedMask_apply g draws (drawn b.val) b a (h b a) i j
  generalize paddedMask draws = p at hp
  unfold kept
  rw [← hp]
  unfold blockMask
  pointwise

theorem count_apply (k : FVec Ideal S32x192x56x56 .f32) (z : S_.Idx) :
    Host.reduceAdd k (constant S_ .f32 0x00000000#32) reducesTo_S32x192x56x56_S_d0_1_2_3 h_S_ z
      = ∑ b : Fin 32, ∑ a : Fin 192, ∑ i : Fin 56, ∑ j : Fin 56, k (ix4 b a i j) := by
  rw [ValueIdx.hostReduceAdd_apply, Ideal.hostReduceAdd_total _ (fun b => by fin_cases b), sum_idx4]
  have : (constant S_ .f32 0x00000000#32 : FVec Ideal S_ .f32) (Shape.Idx.first h_S_) = 0 := by pointwise
  rw [this, zero_add]

/-- The reference's result from its draws. -/
theorem rescaled_apply (g : EReal) (draws x : FVec Ideal S32x192x56x56 .f32)
    (h : ∀ b a i j, draws (ix4 b a i j) = ind (drawn b.val (ix3 a i j) < level g)) (b : Fin 32) (a : Fin 192) (i j : Fin 56) :
    rescaled (blockMask (paddedMask draws)) x (ix4 b a i j) = dropped g x b a i j := by
  have hk := blockMask_apply g draws h
  generalize blockMask (paddedMask draws) = k at hk
  have hc : ∀ z, Host.reduceAdd k (constant S_ .f32 0x00000000#32) reducesTo_S32x192x56x56_S_d0_1_2_3 h_S_ z = count g := fun z => by
    rw [count_apply]; unfold count blockCount; simp only [hk]
  unfold rescaled dropped
  generalize Host.reduceAdd k (constant S_ .f32 0x00000000#32) reducesTo_S32x192x56x56_S_d0_1_2_3 h_S_ = s at hc
  rw [← hk, ← hc ix0]
  pointwise
  rfl

end Cert.DropBlock.Ref

end
-- ==== Proof.RefRun.lean ====
/-
  The reference's run, its result named: the same dropped and rescaled entries as the kernel's.
-/
module

public import proofs.«01_k».proof.Proof.RefDraw
public import proofs.«01_k».proof.Proof.RefMask

@[expose] public section

set_option maxRecDepth 16384

noncomputable section

namespace Cert.DropBlock.Ref

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- What the result's buffer holds when the host operations are done. -/
def final (c : Dev nD) : FVec Ideal S32x192x56x56 .f32 :=
  Pipeline.afterTail₀ cfgs (dats m) 0 (V0 m) tailOps c main_v62

theorem final_apply (c : Dev nD) (b : Fin 32) (a : Fin 192) (i j : Fin 56) :
    final m c (ix4 b a i j) = dropped ((m ((c.tc : Thread nD τ).loc main_arg1) : FVec Ideal S_ .f32) ix0)
      (m ((c.tc : Thread nD τ).loc main_arg0) : FVec Ideal S32x192x56x56 .f32) b a i j := by
  have e1 := (Pipeline.withArrays_arr spec0 launch0.win.arr_inj c (V0 m c) (fun w => (dats m 0 c).arrAt w cfg0.N) 1).trans (draws_arr m c)
  have e0 : (Pipeline.withArrays spec0 c (V0 m c) (fun w => (dats m 0 c).arrAt w cfg0.N) (Proc.devRef .tc main_arg0) : FVec Ideal S32x192x56x56 .f32)
      = m ((c.tc : Thread nD τ).loc main_arg0) :=
    (Pipeline.withArrays_of_ne spec0 c (V0 m c) _ main_arg0 (by exact (by decide : ∀ w, Pipeline.arrRef spec0 w ≠ main_arg0))).trans (V_main_arg0 m c)
  unfold final Pipeline.afterTail₀
  refine (congrFun (tail _) _).trans ?_
  refine (congrArg₂ (fun d x => rescaled (blockMask (paddedMask d)) x (ix4 b a i j)) e1 e0).trans ?_
  exact rescaled_apply _ _ _ (fun b a i j => rfl) b a i j

/-- The run, the result named and the arguments as launched. -/
theorem result : θ_run defs (onTc (τ := τ) (main (F := Ideal))) ⟨m, fun _ => 0, ρ⟩ (fun r => ∀ c : Dev nD,
      r.2.mem ((c.tc : Thread nD τ).loc main_v62) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v62 (Pipeline.mem_restRefs_of main_v62 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end Cert.DropBlock.Ref

end
-- ==== Proof.lean ====
/-
  The claim. The kernel's frame is the ideal kernel's, both being one text; the ideal kernel and the reference both end with the kept
  entries of the input, rescaled (`Cert.DropBlock.dropped`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Transfer
public import proofs.«01_k».proof.Proof.KernelValue
public import proofs.«01_k».proof.Proof.RefRun

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

theorem frame_kernel : Cert.quiescent_Kernel :=
  Cert.DropBlock.frames_same.mpr fun m g _ => Cert.DropBlock.frame (F := Bits) m g

/-- From the same rate and the same input, the two results are equal. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.DropBlock.Ref.final m' c = (Cert.DropBlock.Wend m c (Proc.devRef .tc Cert.KernelIdeal.main_v14) : FVec Ideal Cert.KernelIdeal.S32x192x56x56 .f32) := by
  funext y
  obtain ⟨b, a, i, j, rfl⟩ : ∃ (b : Fin 32) (a : Fin 192) (i j : Fin 56), y = ix4 b a i j := ⟨y 0, y 1, y 2, y 3, eq_ix4 y⟩
  refine (Cert.DropBlock.Ref.final_apply m' c b a i j).trans ?_
  rw [Cert.DropBlock.result_apply, h0, h1]
  rfl

theorem algebraic : Cert.algebraic_KernelIdeal_ReferenceIdeal := fun m g m' g' _ hm =>
  ⟨fun c => Cert.DropBlock.Wend m c (Proc.devRef .tc Cert.KernelIdeal.main_v14),
    Cert.DropBlock.result m g,
    (θ_run Cert.ReferenceIdeal.defs _ _).mono (fun _ h c => ⟨(h c).1.trans (results_equal m m' c (hm c).1 (hm c).2), (h c).2⟩) (Cert.DropBlock.Ref.result m' g')⟩

theorem claim : Cert.Claim := ⟨Cert.Kernel.Gen.facts, Cert.KernelIdeal.Gen.facts, Cert.ReferenceIdeal.Gen.facts,
  frame_kernel, fun m g _ => Cert.DropBlock.frame (F := Ideal) m g, fun m g _ => Cert.ReferenceIdeal.Gen.frame (F := Ideal) m g, trivial, algebraic⟩

end Cert.Proof

end
